-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  IdealRules.named_const.Statement Cert.Kernel2Ideal.κ "qscale" .f32 0x3E38AA3B#32 (((Real.log 256)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v37_0)) (v1 : (c : Dev Cert.Kernel2Ideal.nD) → Buf (Elt Ideal) ((c.tc : Thread Cert.Kernel2Ideal.nD Cert.Kernel2Ideal.τ).loc Cert.Kernel2Ideal.main_v37_1)) (v2 : (c : Dev Cert.Kernel2Ideal.nD) → Buf (Elt Ideal) ((c.tc : Thread Cert.Kernel2Ideal.nD Cert.Kernel2Ideal.τ).loc Cert.Kernel2Ideal.main_v37_2)) (v3 : (c : Dev Cert.Kernel2Ideal.nD) → Buf (Elt Ideal) ((c.tc : Thread Cert.Kernel2Ideal.nD Cert.Kernel2Ideal.τ).loc Cert.Kernel2Ideal.main_v37_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v37_0) = v0 c
          ∧ r.2.mem ((c.tc : Thread Cert.Kernel2Ideal.nD Cert.Kernel2Ideal.τ).loc Cert.Kernel2Ideal.main_v37_1) = v1 c
          ∧ r.2.mem ((c.tc : Thread Cert.Kernel2Ideal.nD Cert.Kernel2Ideal.τ).loc Cert.Kernel2Ideal.main_v37_2) = v2 c
          ∧ r.2.mem ((c.tc : Thread Cert.Kernel2Ideal.nD Cert.Kernel2Ideal.τ).loc Cert.Kernel2Ideal.main_v37_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v167) = v0 c
          ∧ r.2.mem ((c.tc : Thread Cert.Reference2Ideal.nD Cert.Reference2Ideal.τ).loc Cert.Reference2Ideal.main_v168) = v1 c
          ∧ r.2.mem ((c.tc : Thread Cert.Reference2Ideal.nD Cert.Reference2Ideal.τ).loc Cert.Reference2Ideal.main_v170) = v2 c
          ∧ r.2.mem ((c.tc : Thread Cert.Reference2Ideal.nD Cert.Reference2Ideal.τ).loc Cert.Reference2Ideal.main_v172) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v37_0)) (v1 : (c : Dev Cert.Kernel3Ideal.nD) → Buf (Elt Ideal) ((c.tc : Thread Cert.Kernel3Ideal.nD Cert.Kernel3Ideal.τ).loc Cert.Kernel3Ideal.main_v37_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v37_0) = v0 c
          ∧ r.2.mem ((c.tc : Thread Cert.Kernel3Ideal.nD Cert.Kernel3Ideal.τ).loc Cert.Kernel3Ideal.main_v37_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_v64) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v27)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x1024 : Shape := ⟨3, ![8, 4096, 1024]⟩
abbrev S8x4096x256 : Shape := ⟨3, ![8, 4096, 256]⟩
abbrev S8x256x256 : Shape := ⟨3, ![8, 256, 256]⟩
abbrev S16 : Shape := ⟨1, ![16]⟩
abbrev S16x1x3072 : Shape := ⟨3, ![16, 1, 3072]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  bcast_S_S8x4096x256 : S_.BroadcastsInDim S8x4096x256 (![] : Fin 0 → Fin S8x4096x256.rank)
  bcast_S_S8x256x256 : S_.BroadcastsInDim S8x256x256 (![] : Fin 0 → Fin S8x256x256.rank)
  bcast_S_S16 : S_.BroadcastsInDim S16 (![] : Fin 0 → Fin S16.rank)

variable [Facts]

def fn {F : FTy → Type} [FloatOps F] (main_arg0 : FVec F S8x4096x1024 .f32) (main_arg1 : FVec F S8x4096x256 .f32) (main_arg2 : FVec F S8x4096x256 .f32) (main_arg3 : FVec F S8x256x256 .f32) (main_arg4 : FVec F S8x256x256 .f32) (main_arg5 : FVec F S16 .f32) (main_arg6 : FVec F S8x4096x1024 .f32) (main_arg7 : FVec F S8x4096x1024 .f32) (main_arg8 : FVec F S16x1x3072 .f32) (main_arg9 : FVec F S1024x1024 .f32) (main_arg10 : FVec F S1024 .f32) : IVec S8x4096x1024 1 × IVec S8x4096x256 1 × IVec S8x256x256 1 × IVec S16 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x4096x256 .f32 := Host.absf main_arg1
  let main_cst_0 : FVec F S_ .f32 := constant S_ .f32 0x7F800000#32
  let main_v4 : FVec F S8x4096x256 .f32 := broadcastInDim S8x4096x256 ![] bcast_S_S8x4096x256 main_cst_0
  let main_v5 : IVec S8x4096x256 1 := cmpf .olt main_v3 main_v4
  let main_v6 : FVec F S8x256x256 .f32 := Host.absf main_arg3
  let main_cst_1 : FVec F S_ .f32 := constant S_ .f32 0x7F800000#32
  let main_v7 : FVec F S8x256x256 .f32 := broadcastInDim S8x256x256 ![] bcast_S_S8x256x256 main_cst_1
  let main_v8 : IVec S8x256x256 1 := cmpf .olt main_v6 main_v7
  let main_v9 : FVec F S16 .f32 := Host.absf main_arg5
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== Kernel.lean ====
abbrev S8x4096x1024 : Shape := ⟨3, ![8, 4096, 1024]⟩
abbrev S8x4096x256 : Shape := ⟨3, ![8, 4096, 256]⟩
abbrev S8x256x256 : Shape := ⟨3, ![8, 256, 256]⟩
abbrev S16 : Shape := ⟨1, ![16]⟩
abbrev S16x1x3072 : Shape := ⟨3, ![16, 1, 3072]⟩
abbrev S1024x1024 : Shape := ⟨2, ![1024, 1024]⟩
abbrev S1024 : Shape := ⟨1, ![1024]⟩
abbrev S_ : Shape := ⟨0, ![]⟩
abbrev S8x4096x4x64 : Shape := ⟨4, ![8, 4096, 4, 64]⟩
abbrev S8x4096x4x128 : Shape := ⟨4, ![8, 4096, 4, 128]⟩
abbrev S8x4096x512 : Shape := ⟨3, ![8, 4096, 512]⟩
abbrev S8x256x4096 : Shape := ⟨3, ![8, 256, 4096]⟩
abbrev S8x256x4x64 : Shape := ⟨4, ![8, 256, 4, 64]⟩
abbrev S8x256x4x128 : Shape := ⟨4, ![8, 256, 4, 128]⟩
abbrev S8x256x512 : Shape := ⟨3, ![8, 256, 512]⟩
abbrev S1x1024 : Shape := ⟨2, ![1, 1024]⟩
abbrev S4x1x4 : Shape := ⟨3, ![4, 1, 4]⟩
abbrev S4x1x4x128 : Shape := ⟨4, ![4, 1, 4, 128]⟩
abbrev S4x1x512 : Shape := ⟨3, ![4, 1, 512]⟩
abbrev S1x512x1024 : Shape := ⟨3, ![1, 512, 1024]⟩
abbrev S1x128x512 : Shape := ⟨3, ![1, 128, 512]⟩
abbrev S1x512x512 : Shape := ⟨3, ![1, 512, 512]⟩
abbrev S1x256x128 : Shape := ⟨3, ![1, 256, 128]⟩
abbrev S1x256x512 : Shape := ⟨3, ![1, 256, 512]⟩
abbrev S1x256x256 : Shape := ⟨3, ![1, 256, 256]⟩
abbrev S1x1x3072 : Shape := ⟨3, ![1, 1, 3072]⟩
abbrev S128x128 : Shape := ⟨2, ![128, 128]⟩
abbrev S128x640 : Shape := ⟨2, ![128, 640]⟩
abbrev S1x3072 : Shape := ⟨2, ![1, 3072]⟩
abbrev S256x128 : Shape := ⟨2, ![256, 128]⟩
abbrev S1x128x128 : Shape := ⟨3, ![1, 128, 128]⟩
abbrev S512x128 : Shape := ⟨2, ![512, 128]⟩
abbrev S640x128 : Shape := ⟨2, ![640, 128]⟩
abbrev S640x512 : Shape := ⟨2, ![640, 512]⟩
abbrev S256x512 : Shape := ⟨2, ![256, 512]⟩
abbrev S32x8x512 : Shape := ⟨3, ![32, 8, 512]⟩
abbrev S8x512 : Shape := ⟨2, ![8, 512]⟩
abbrev S128x512 : Shape := ⟨2, ![128, 512]⟩
abbrev S16x8x512 : Shape := ⟨3, ![16, 8, 512]⟩
abbrev S1x1x512 : Shape := ⟨3, ![1, 1, 512]⟩
abbrev S1x512 : Shape := ⟨2, ![1, 512]⟩
abbrev S512 : Shape := ⟨1, ![512]⟩
abbrev S64x512 : Shape := ⟨2, ![64, 512]⟩
abbrev S1x128x256 : Shape := ⟨3, ![1, 128, 256]⟩
abbrev S128x256 : Shape := ⟨2, ![128, 256]⟩
abbrev S64x128 : Shape := ⟨2, ![64, 128]⟩
abbrev S128x1024 : Shape := ⟨2, ![128, 1024]⟩
abbrev S256x1024 : Shape := ⟨2, ![256, 1024]⟩
abbrev S1x256x1024 : Shape := ⟨3, ![1, 256, 1024]⟩
abbrev S1024x256 : Shape := ⟨2, ![1024, 256]⟩
abbrev S256x256 : Shape := ⟨2, ![256, 256]⟩
abbrev S256 : Shape := ⟨1, ![256]⟩
abbrev S256x1 : Shape := ⟨2, ![256, 1]⟩

abbrev nBuf : Space → Nat
  | .hbm => 38
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x256x256, .f32⟩
  | .hbm, ⟨4, _⟩ => ⟨S8x256x256, .f32⟩
  | .hbm, ⟨5, _⟩ => ⟨S16, .f32⟩
  | .hbm, ⟨6, _⟩ => ⟨S8x4096x1024, .f32⟩
  | .hbm, ⟨7, _⟩ => ⟨S8x4096x1024, .f32⟩
  | .hbm, ⟨8, _⟩ => ⟨S16x1x3072, .f32⟩
  | .hbm, ⟨9, _⟩ => ⟨S1024x1024, .f32⟩
  | .hbm, ⟨10, _⟩ => ⟨S1024, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S_, .f32⟩
  | .hbm, ⟨16, _⟩ => ⟨S8x4096x1024, .f32⟩
  | .hbm, ⟨17, _⟩ => ⟨S8x4096x1024, .f32⟩
  | .hbm, ⟨18, _⟩ => ⟨S8x4096x1024, .bf16⟩
  | .hbm, ⟨19, _⟩ => ⟨S8x4096x4x64, .f32⟩
  | .hbm, ⟨20, _⟩ => ⟨S8x4096x4x128, .f32⟩
  | .hbm, ⟨21, _⟩ => ⟨S8x4096x512, .f32⟩
  | .hbm, ⟨22, _⟩ => ⟨S8x4096x512, .bf16⟩
  | .hbm, ⟨23, _⟩ => ⟨S8x256x4096, .f32⟩
  | .hbm, ⟨24, _⟩ => ⟨S8x256x4096, .bf16⟩
  | .hbm, ⟨25, _⟩ => ⟨S8x256x4x64, .f32⟩
  | .hbm, ⟨26, _⟩ => ⟨S8x256x4x128, .f32⟩
  | .hbm, ⟨27, _⟩ => ⟨S8x256x512, .f32⟩
  | .hbm, ⟨28, _⟩ => ⟨S8x256x512, .bf16⟩
  | .hbm, ⟨29, _⟩ => ⟨S8x256x256, .f32⟩
  | .hbm, ⟨30, _⟩ => ⟨S8x256x256, .bf16⟩
  | .hbm, ⟨31, _⟩ => ⟨S8x4096x1024, .bf16⟩
  | .hbm, ⟨32, _⟩ => ⟨S1024x1024, .bf16⟩
  | .hbm, ⟨33, _⟩ => ⟨S1x1024, .f32⟩
  | .hbm, ⟨34, _⟩ => ⟨S4x1x4, .f32⟩
  | .hbm, ⟨35, _⟩ => ⟨S4x1x4x128, .f32⟩
  | .hbm, ⟨36, _⟩ => ⟨S4x1x512, .f32⟩
  | .hbm, ⟨37, _⟩ => ⟨S8x4096x1024, .f32⟩
  | .local _ .vmem, ⟨0, _⟩ => ⟨S4x1x512, .f32⟩
  | .local _ .vmem, ⟨1, _⟩ => ⟨S1x512x1024, .bf16⟩
  | .local _ .vmem, ⟨2, _⟩ => ⟨S1x512x1024, .bf16⟩
  | .local _ .vmem, ⟨3, _⟩ => ⟨S1x128x512, .bf16⟩
  | .local _ .vmem, ⟨4, _⟩ => ⟨S1x128x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x128, .bf16⟩
  | .local _ .vmem, ⟨14, _⟩ => ⟨S1x256x128, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x256, .bf16⟩
  | .local _ .vmem, ⟨18, _⟩ => ⟨S1x256x256, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .f32⟩
  | .local _ .vmem, ⟨22, _⟩ => ⟨S1x512x1024, .f32⟩
  | .local _ .vmem, ⟨23, _⟩ => ⟨S1x1x3072, .f32⟩
  | .local _ .vmem, ⟨24, _⟩ => ⟨S1x1x3072, .f32⟩
  | .local _ .vmem, ⟨25, _⟩ => ⟨S1024x1024, .bf16⟩
  | .local _ .vmem, ⟨26, _⟩ => ⟨S1x1024, .f32⟩
  | .local _ .vmem, ⟨27, _⟩ => ⟨S1x512x1024, .f32⟩
  | .local _ .vmem, ⟨28, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c4_i32_0 : BitVec 32 := 4#32
  let v1 : BitVec 32 := Scalar.addi v0 c4_i32_0
  let c31_i32 : BitVec 32 := 31#32
  let v2 : BitVec 32 := Scalar.minsi v1 c31_i32
  let c0_i32 : BitVec 32 := 0#32
  let c0_i32_1 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c4_i32_0 : BitVec 32 := 4#32
  let v1 : BitVec 32 := Scalar.addi v0 c4_i32_0
  let c31_i32 : BitVec 32 := 31#32
  let v2 : BitVec 32 := Scalar.minsi v1 c31_i32
  let c0_i32 : BitVec 32 := 0#32
  let c0_i32_1 : BitVec 32 := 0#32
  ![arg0.toNat, c0_i32.toNat, v2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x4096x1024 : Shape := ⟨3, ![8, 4096, 1024]⟩
abbrev S8x4096x256 : Shape := ⟨3, ![8, 4096, 256]⟩
abbrev S8x256x256 : Shape := ⟨3, ![8, 256, 256]⟩
abbrev S16 : Shape := ⟨1, ![16]⟩
abbrev S16x1x3072 : Shape := ⟨3, ![16, 1, 3072]⟩
abbrev S1024x1024 : Shape := ⟨2, ![1024, 1024]⟩
abbrev S1024 : Shape := ⟨1, ![1024]⟩
abbrev S8x4096x4x4x64 : Shape := ⟨5, ![8, 4096, 4, 4, 64]⟩
abbrev S8x4096x4x64 : Shape := ⟨4, ![8, 4096, 4, 64]⟩
abbrev S8x256x4x64 : Shape := ⟨4, ![8, 256, 4, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x4x4096x4096x4 : Shape := ⟨5, ![8, 4, 4096, 4096, 4]⟩
abbrev S8x4x4x4096x4096 : Shape := ⟨5, ![8, 4, 4, 4096, 4096]⟩
abbrev S8x4x256x4096x4 : Shape := ⟨5, ![8, 4, 256, 4096, 4]⟩
abbrev S8x4x4x4096x256 : Shape := ⟨5, ![8, 4, 4, 4096, 256]⟩
abbrev S4x4 : Shape := ⟨2, ![4, 4]⟩
abbrev S1x4x4x1x1 : Shape := ⟨5, ![1, 4, 4, 1, 1]⟩
abbrev S8x4x4x4096x1 : Shape := ⟨5, ![8, 4, 4, 4096, 1]⟩
abbrev S8x4x4x4096x4353 : Shape := ⟨5, ![8, 4, 4, 4096, 4353]⟩
abbrev S8x4x4x4096 : Shape := ⟨4, ![8, 4, 4, 4096]⟩
abbrev S8x4x4x4096x4352 : Shape := ⟨5, ![8, 4, 4, 4096, 4352]⟩
abbrev S8x4352x4x64 : Shape := ⟨4, ![8, 4352, 4, 64]⟩
abbrev S8x4x64x4x4096 : Shape := ⟨5, ![8, 4, 64, 4, 4096]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x256x256, .f32⟩
  | .hbm, ⟨4, _⟩ => ⟨S8x256x256, .f32⟩
  | .hbm, ⟨5, _⟩ => ⟨S16, .f32⟩
  | .hbm, ⟨6, _⟩ => ⟨S8x4096x1024, .f32⟩
  | .hbm, ⟨7, _⟩ => ⟨S8x4096x1024, .f32⟩
  | .hbm, ⟨8, _⟩ => ⟨S16x1x3072, .f32⟩
  | .hbm, ⟨9, _⟩ => ⟨S1024x1024, .f32⟩
  | .hbm, ⟨10, _⟩ => ⟨S1024, .f32⟩
  | .hbm, ⟨11, _⟩ => ⟨S8x4096x4x4x64, .f32⟩
  | .hbm, ⟨12, _⟩ => ⟨S8x4096x4x64, .f32⟩
  | .hbm, ⟨13, _⟩ => ⟨S8x4096x4x64, .f32⟩
  | .hbm, ⟨14, _⟩ => ⟨S8x256x4x64, .f32⟩
  | .hbm, ⟨15, _⟩ => ⟨S8x256x4x64, .f32⟩
  | .hbm, ⟨16, _⟩ => ⟨S4096, .i32⟩
  | .hbm, ⟨17, _⟩ => ⟨S4096x1, .i32⟩
  | .hbm, ⟨18, _⟩ => ⟨S1x4096, .i32⟩
  | .hbm, ⟨19, _⟩ => ⟨S4096x4096, .i32⟩
  | .hbm, ⟨20, _⟩ => ⟨S4096x4096, .i32⟩
  | .hbm, ⟨21, _⟩ => ⟨S4096x4096, .i32⟩
  | .hbm, ⟨22, _⟩ => ⟨S4096x4096, .i32⟩
  | .hbm, ⟨23, _⟩ => ⟨S_, .i32⟩
  | .hbm, ⟨24, _⟩ => ⟨S4096x4096, .i32⟩
  | .hbm, ⟨25, _⟩ => ⟨S4096x4096, .i1⟩
  | .hbm, ⟨26, _⟩ => ⟨S8x4x4096x4096x4, .f32⟩
  | .hbm, ⟨27, _⟩ => ⟨S8x4x4x4096x4096, .f32⟩
  | .hbm, ⟨28, _⟩ => ⟨S_, .f32⟩
  | .hbm, ⟨29, _⟩ => ⟨S8x4x4x4096x4096, .f32⟩
  | .hbm, ⟨30, _⟩ => ⟨S8x4x4x4096x4096, .f32⟩
  | .hbm, ⟨31, _⟩ => ⟨S_, .f32⟩
  | .hbm, ⟨32, _⟩ => ⟨S_, .f32⟩
  | .hbm, ⟨33, _⟩ => ⟨S8x4x4x4096x4096, .i1⟩
  | .hbm, ⟨34, _⟩ => ⟨S8x4x4x4096x4096, .f32⟩
  | .hbm, ⟨35, _⟩ => ⟨S8x4x4x4096x4096, .f32⟩
  | .hbm, ⟨36, _⟩ => ⟨S8x4x256x4096x4, .f32⟩
  | .hbm, ⟨37, _⟩ => ⟨S8x4x4x4096x256, .f32⟩
  | .hbm, ⟨38, _⟩ => ⟨S_, .f32⟩
  | .hbm, ⟨39, _⟩ => ⟨S8x4x4x4096x256, .f32⟩
  | .hbm, ⟨40, _⟩ => ⟨S8x4x4x4096x256, .f32⟩
  | .hbm, ⟨41, _⟩ => ⟨S4x4, .f32⟩
  | .hbm, ⟨42, _⟩ => ⟨S1x4x4x1x1, .f32⟩
  | .hbm, ⟨43, _⟩ => ⟨S8x4x4x4096x1, .f32⟩
  | .hbm, ⟨44, _⟩ => ⟨S8x4x4x4096x4353, .f32⟩
  | .hbm, ⟨45, _⟩ => ⟨S_, .f32⟩
  | .hbm, ⟨46, _⟩ => ⟨S8x4x4x4096, .f32⟩
  | .hbm, ⟨47, _⟩ => ⟨S_, .f32⟩
  | .hbm, ⟨48, _⟩ => ⟨S8x4x4x4096, .f32⟩
  | .hbm, ⟨49, _⟩ => ⟨S8x4x4x4096, .f32⟩
  | .hbm, ⟨50, _⟩ => ⟨S8x4x4x4096x1, .f32⟩
  | .hbm, ⟨51, _⟩ => ⟨S8x4x4x4096x4353, .f32⟩
  | .hbm, ⟨52, _⟩ => ⟨S8x4x4x4096x4353, .f32⟩
  | .hbm, ⟨53, _⟩ => ⟨S8x4x4x4096x4353, .f32⟩
  | .hbm, ⟨54, _⟩ => ⟨S_, .f32⟩
  | .hbm, ⟨55, _⟩ => ⟨S8x4x4x4096, .f32⟩
  | .hbm, ⟨56, _⟩ => ⟨S8x4x4x4096x1, .f32⟩
  | .hbm, ⟨57, _⟩ => ⟨S8x4x4x4096x4353, .f32⟩
  | .hbm, ⟨58, _⟩ => ⟨S8x4x4x4096x4353, .f32⟩
  | .hbm, ⟨59, _⟩ => ⟨S8x4x4x4096x4352, .f32⟩
  | .hbm, ⟨60, _⟩ => ⟨S8x4352x4x64, .f32⟩
  | .hbm, ⟨61, _⟩ => ⟨S8x4x64x4x4096, .f32⟩
  | .hbm, ⟨62, _⟩ => ⟨S8x4096x4x4x64, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x1x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S_, .f32⟩
  | .hbm, ⟨75, _⟩ => ⟨S8x4096x1, .f32⟩
  | .hbm, ⟨76, _⟩ => ⟨S8x4096x1, .f32⟩
  | .hbm, ⟨77, _⟩ => ⟨S_, .f32⟩
  | .hbm, ⟨78, _⟩ => ⟨S8x4096x1, .f32⟩
  | .hbm, ⟨79, _⟩ => ⟨S8x4096x1, .f32⟩
  | .hbm, ⟨80, _⟩ => ⟨S8x4096x1, .f32⟩
  | .hbm, ⟨81, _⟩ => ⟨S8x4096x1024, .f32⟩
  | .hbm, ⟨82, _⟩ => ⟨S8x4096x1024, .f32⟩
  | .hbm, ⟨83, _⟩ => ⟨S1x1x1024, .f32⟩
  | .hbm, ⟨84, _⟩ => ⟨S8x4096x1024, .f32⟩
  | .hbm, ⟨85, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Kernel2.lean ====
abbrev S8x4096x1024 : Shape := ⟨3, ![8, 4096, 1024]⟩
abbrev S16x1x3072 : Shape := ⟨3, ![16, 1, 3072]⟩
abbrev S1024 : Shape := ⟨1, ![1024]⟩
abbrev S1024x2560 : Shape := ⟨2, ![1024, 2560]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x128 : Shape := ⟨2, ![4096, 128]⟩
abbrev S1x1024 : Shape := ⟨2, ![1, 1024]⟩
abbrev S8x4096x512 : Shape := ⟨3, ![8, 4096, 512]⟩
abbrev S8x256x4096 : Shape := ⟨3, ![8, 256, 4096]⟩
abbrev S1x1024x1024 : Shape := ⟨3, ![1, 1024, 1024]⟩
abbrev S1x1x3072 : Shape := ⟨3, ![1, 1, 3072]⟩
abbrev S1024x128 : Shape := ⟨2, ![1024, 128]⟩
abbrev S1x1024x512 : Shape := ⟨3, ![1, 1024, 512]⟩
abbrev S1x256x1024 : Shape := ⟨3, ![1, 256, 1024]⟩
abbrev S1024x1024 : Shape := ⟨2, ![1024, 1024]⟩
abbrev S1x3072 : Shape := ⟨2, ![1, 3072]⟩
abbrev S1024x1 : Shape := ⟨2, ![1024, 1]⟩
abbrev S1x1024x128 : Shape := ⟨3, ![1, 1024, 128]⟩
abbrev S1024x256 : Shape := ⟨2, ![1024, 256]⟩
abbrev S256x1024 : Shape := ⟨2, ![256, 1024]⟩

abbrev nBuf : Space → Nat
  | .hbm => 47
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S16x1x3072, .f32⟩
  | .hbm, ⟨2, _⟩ => ⟨S1024, .f32⟩
  | .hbm, ⟨3, _⟩ => ⟨S1024x2560, .f32⟩
  | .hbm, ⟨4, _⟩ => ⟨S64, .i32⟩
  | .hbm, ⟨5, _⟩ => ⟨S64x64, .i32⟩
  | .hbm, ⟨6, _⟩ => ⟨S4096, .i32⟩
  | .hbm, ⟨7, _⟩ => ⟨S4096, .f32⟩
  | .hbm, ⟨8, _⟩ => ⟨S64, .i32⟩
  | .hbm, ⟨9, _⟩ => ⟨S1x64, .i32⟩
  | .hbm, ⟨10, _⟩ => ⟨S64x64, .i32⟩
  | .hbm, ⟨11, _⟩ => ⟨S4096, .i32⟩
  | .hbm, ⟨12, _⟩ => ⟨S4096, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096x1, .f32⟩
  | .hbm, ⟨22, _⟩ => ⟨S1x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x1, .f32⟩
  | .hbm, ⟨27, _⟩ => ⟨S1x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x64, .f32⟩
  | .hbm, ⟨36, _⟩ => ⟨S4096x16, .f32⟩
  | .hbm, ⟨37, _⟩ => ⟨S4096x16, .f32⟩
  | .hbm, ⟨38, _⟩ => ⟨S4096x64, .f32⟩
  | .hbm, ⟨39, _⟩ => ⟨S4096x128, .f32⟩
  | .hbm, ⟨40, _⟩ => ⟨S4096x128, .f32⟩
  | .hbm, ⟨41, _⟩ => ⟨S1x1024, .f32⟩
  | .hbm, ⟨42, _⟩ => ⟨S1024x2560, .bf16⟩
  | .hbm, ⟨43, _⟩ => ⟨S8x4096x1024, .bf16⟩
  | .hbm, ⟨44, _⟩ => ⟨S8x4096x512, .bf16⟩
  | .hbm, ⟨45, _⟩ => ⟨S8x256x4096, .bf16⟩
  | .hbm, ⟨46, _⟩ => ⟨S8x4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x2560, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x1024x1024, .bf16⟩
  | .local _ .vmem, ⟨17, _⟩ => ⟨S1x1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37_0 : Ref sig .tc := ⟨.hbm, 43, rfl⟩
abbrev main_v37_1 : Ref sig .tc := ⟨.hbm, 44, rfl⟩
abbrev main_v37_2 : Ref sig .tc := ⟨.hbm, 45, rfl⟩
abbrev main_v37_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel2Ideal.lean ====
variable {F : FTy → Type} [FloatOps F] [Named F]
def κ : String → Option EReal := fun
  | "qscale" => some (((Real.log 256)⁻¹ : ℝ) : EReal)
  | _ => none
-- ==== Reference2Ideal.lean ====
abbrev S8x4096x1024 : Shape := ⟨3, ![8, 4096, 1024]⟩
abbrev S16x1x3072 : Shape := ⟨3, ![16, 1, 3072]⟩
abbrev S1024 : Shape := ⟨1, ![1024]⟩
abbrev S1024x2560 : Shape := ⟨2, ![1024, 2560]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S8x1x3072 : Shape := ⟨3, ![8, 1, 3072]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2560 : Shape := ⟨3, ![8, 4096, 2560]⟩
abbrev S8x4096x256 : Shape := ⟨3, ![8, 4096, 256]⟩
abbrev S8x4096x16x64 : Shape := ⟨4, ![8, 4096, 16, 64]⟩
abbrev S8x4096x16x32 : Shape := ⟨4, ![8, 4096, 16, 32]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S8x4096x16x16 : Shape := ⟨4, ![8, 4096, 16, 16]⟩
abbrev S8x4096x4x64 : Shape := ⟨4, ![8, 4096, 4, 64]⟩
abbrev S8x4096x4x32 : Shape := ⟨4, ![8, 4096, 4, 32]⟩
abbrev S8x4096x4x16 : Shape := ⟨4, ![8, 4096, 4, 16]⟩
abbrev S8x4096x4x128 : Shape := ⟨4, ![8, 4096, 4, 128]⟩
abbrev S8x4096x512 : Shape := ⟨3, ![8, 4096, 512]⟩
abbrev S8x256x4096 : Shape := ⟨3, ![8, 256, 4096]⟩

abbrev nBuf : Space → Nat
  | .hbm => 199
  | .vmem => 0
  | .smem => 0
  | _ => 0

abbrev hbmTy0_0 (i : Nat) : BufTy := match i % 128 with
  | 0 => ⟨S8x4096x1024, .f32⟩
  | 1 => ⟨S16x1x3072, .f32⟩
  | 2 => ⟨S1024, .f32⟩
  | 3 => ⟨S1024x2560, .f32⟩
  | 4 => ⟨S64, .i32⟩
  | 5 => ⟨S64x64, .i32⟩
  | 6 => ⟨S4096, .i32⟩
  | 7 => ⟨S64, .i32⟩
  | 8 => ⟨S1x64, .i32⟩
  | 9 => ⟨S64x64, .i32⟩
  | 10 => ⟨S4096, .i32⟩
  | 11 => ⟨S8x1x3072, .f32⟩
  | 12 => ⟨S8x1x1024, .f32⟩
  | 13 => ⟨S8x1x1024, .f32⟩
  | 14 => ⟨S8x1x1024, .f32⟩
  | 15 => ⟨S8x4096x1024, .f32⟩
  | 16 => ⟨S_, .f32⟩
  | 17 => ⟨S8x4096, .f32⟩
  | 18 => ⟨S8x4096x1, .f32⟩
  | 19 => ⟨S_, .f32⟩
  | 20 => ⟨S8x4096x1, .f32⟩
  | 21 => ⟨S8x4096x1, .f32⟩
  | 22 => ⟨S_, .f32⟩
  | 23 => ⟨S8x4096x1, .f32⟩
  | 24 => ⟨S8x4096x1, .f32⟩
  | 25 => ⟨S8x4096x1, .f32⟩
  | 26 => ⟨S8x4096x1024, .f32⟩
  | 27 => ⟨S8x4096x1024, .f32⟩
  | 28 => ⟨S1x1x1024, .f32⟩
  | 29 => ⟨S8x4096x1024, .f32⟩
  | 30 => ⟨S8x4096x1024, .f32⟩
  | 31 => ⟨S_, .f32⟩
  | 32 => ⟨S8x1x1024, .f32⟩
  | 33 => ⟨S8x1x1024, .f32⟩
  | 34 => ⟨S8x4096x1024, .f32⟩
  | 35 => ⟨S8x4096x1024, .f32⟩
  | 36 => ⟨S8x4096x1024, .f32⟩
  | 37 => ⟨S8x4096x1024, .f32⟩
  | 38 => ⟨S8x4096x2560, .f32⟩
  | 39 => ⟨S8x4096x1024, .f32⟩
  | 40 => ⟨S8x4096x256, .f32⟩
  | 41 => ⟨S8x4096x256, .f32⟩
  | 42 => ⟨S8x4096x1024, .f32⟩
  | 43 => ⟨S8x4096x16x64, .f32⟩
  | 44 => ⟨S8x4096x16x32, .f32⟩
  | 45 => ⟨S16, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S4096, .f32⟩
  | 54 => ⟨S4096x1, .f32⟩
  | 55 => ⟨S1x16, .f32⟩
  | 56 => ⟨S4096x16, .f32⟩
  | 57 => ⟨S4096x16, .f32⟩
  | 58 => ⟨S4096x16, .f32⟩
  | 59 => ⟨S4096x16, .f32⟩
  | 60 => ⟨S1x4096x1x16, .f32⟩
  | 61 => ⟨S4096x16, .f32⟩
  | 62 => ⟨S1x4096x1x16, .f32⟩
  | 63 => ⟨S8x4096x16x16, .f32⟩
  | 64 => ⟨S8x4096x16x16, .f32⟩
  | 65 => ⟨S8x4096x16x16, .f32⟩
  | 66 => ⟨S8x4096x16x16, .f32⟩
  | 67 => ⟨S8x4096x16x16, .f32⟩
  | 68 => ⟨S8x4096x16x16, .f32⟩
  | 69 => ⟨S8x4096x16x16, .f32⟩
  | 70 => ⟨S8x4096x16x16, .f32⟩
  | 71 => ⟨S8x4096x16x16, .f32⟩
  | 72 => ⟨S8x4096x16x16, .f32⟩
  | 73 => ⟨S8x4096x16x16, .f32⟩
  | 74 => ⟨S8x4096x16x16, .f32⟩
  | 75 => ⟨S8x4096x16x32, .f32⟩
  | 76 => ⟨S8x4096x16x32, .f32⟩
  | 77 => ⟨S16, .f32⟩
  | 78 => ⟨S16, .f32⟩
  | 79 => ⟨S_, .f32⟩
  | 80 => ⟨S16, .f32⟩
  | 81 => ⟨S16, .f32⟩
  | 82 => ⟨S_, .f32⟩
  | 83 => ⟨S16, .f32⟩
  | 84 => ⟨S16, .f32⟩
  | 85 => ⟨S4096, .f32⟩
  | 86 => ⟨S4096x1, .f32⟩
  | 87 => ⟨S1x16, .f32⟩
  | 88 => ⟨S4096x16, .f32⟩
  | 89 => ⟨S4096x16, .f32⟩
  | 90 => ⟨S4096x16, .f32⟩
  | 91 => ⟨S4096x16, .f32⟩
  | 92 => ⟨S1x4096x1x16, .f32⟩
  | 93 => ⟨S4096x16, .f32⟩
  | 94 => ⟨S1x4096x1x16, .f32⟩
  | 95 => ⟨S8x4096x16x16, .f32⟩
  | 96 => ⟨S8x4096x16x16, .f32⟩
  | 97 => ⟨S8x4096x16x16, .f32⟩
  | 98 => ⟨S8x4096x16x16, .f32⟩
  | 99 => ⟨S8x4096x16x16, .f32⟩
  | 100 => ⟨S8x4096x16x16, .f32⟩
  | 101 => ⟨S8x4096x16x16, .f32⟩
  | 102 => ⟨S8x4096x16x16, .f32⟩
  | 103 => ⟨S8x4096x16x16, .f32⟩
  | 104 => ⟨S8x4096x16x16, .f32⟩
  | 105 => ⟨S8x4096x16x16, .f32⟩
  | 106 => ⟨S8x4096x16x16, .f32⟩
  | 107 => ⟨S8x4096x16x32, .f32⟩
  | 108 => ⟨S8x4096x16x64, .f32⟩
  | 109 => ⟨S8x4096x4x64, .f32⟩
  | 110 => ⟨S8x4096x4x32, .f32⟩
  | 111 => ⟨S16, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S4096, .f32⟩
  | 120 => ⟨S4096x1, .f32⟩
  | 121 => ⟨S1x16, .f32⟩
  | 122 => ⟨S4096x16, .f32⟩
  | 123 => ⟨S4096x16, .f32⟩
  | 124 => ⟨S4096x16, .f32⟩
  | 125 => ⟨S4096x16, .f32⟩
  | 126 => ⟨S1x4096x1x16, .f32⟩
  | 127 => ⟨S4096x16, .f32⟩
  | _ => ⟨S8x4096x1024, .f32⟩

abbrev hbmTy0_1 (i : Nat) : BufTy := match i % 128 with
  | 0 => ⟨S1x4096x1x16, .f32⟩
  | 1 => ⟨S8x4096x4x16, .f32⟩
  | 2 => ⟨S8x4096x4x16, .f32⟩
  | 3 => ⟨S8x4096x4x16, .f32⟩
  | 4 => ⟨S8x4096x4x16, .f32⟩
  | 5 => ⟨S8x4096x4x16, .f32⟩
  | 6 => ⟨S8x4096x4x16, .f32⟩
  | 7 => ⟨S8x4096x4x16, .f32⟩
  | 8 => ⟨S8x4096x4x16, .f32⟩
  | 9 => ⟨S8x4096x4x16, .f32⟩
  | 10 => ⟨S8x4096x4x16, .f32⟩
  | 11 => ⟨S8x4096x4x16, .f32⟩
  | 12 => ⟨S8x4096x4x16, .f32⟩
  | 13 => ⟨S8x4096x4x32, .f32⟩
  | 14 => ⟨S8x4096x4x32, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S4096, .f32⟩
  | 24 => ⟨S4096x1, .f32⟩
  | 25 => ⟨S1x16, .f32⟩
  | 26 => ⟨S4096x16, .f32⟩
  | 27 => ⟨S4096x16, .f32⟩
  | 28 => ⟨S4096x16, .f32⟩
  | 29 => ⟨S4096x16, .f32⟩
  | 30 => ⟨S1x4096x1x16, .f32⟩
  | 31 => ⟨S4096x16, .f32⟩
  | 32 => ⟨S1x4096x1x16, .f32⟩
  | 33 => ⟨S8x4096x4x16, .f32⟩
  | 34 => ⟨S8x4096x4x16, .f32⟩
  | 35 => ⟨S8x4096x4x16, .f32⟩
  | 36 => ⟨S8x4096x4x16, .f32⟩
  | 37 => ⟨S8x4096x4x16, .f32⟩
  | 38 => ⟨S8x4096x4x16, .f32⟩
  | 39 => ⟨S8x4096x4x16, .f32⟩
  | 40 => ⟨S8x4096x4x16, .f32⟩
  | 41 => ⟨S8x4096x4x16, .f32⟩
  | 42 => ⟨S8x4096x4x16, .f32⟩
  | 43 => ⟨S8x4096x4x16, .f32⟩
  | 44 => ⟨S8x4096x4x16, .f32⟩
  | 45 => ⟨S8x4096x4x32, .f32⟩
  | 46 => ⟨S8x4096x4x64, .f32⟩
  | 47 => ⟨S_, .f32⟩
  | 48 => ⟨S8x4096x16x64, .f32⟩
  | 49 => ⟨S8x4096x16x64, .f32⟩
  | 50 => ⟨S_, .f32⟩
  | 51 => ⟨S_, .f32⟩
  | 52 => ⟨S8x4096x16x64, .f32⟩
  | 53 => ⟨S8x4096x16x64, .f32⟩
  | 54 => ⟨S8x4096x1024, .f32⟩
  | 55 => ⟨S8x4096x4x128, .f32⟩
  | 56 => ⟨S8x4096x512, .f32⟩
  | 57 => ⟨S8x4096x1024, .bf16⟩
  | 58 => ⟨S8x4096x512, .bf16⟩
  | 59 => ⟨S8x256x4096, .f32⟩
  | 60 => ⟨S8x256x4096, .bf16⟩
  | 61 => ⟨S8x4096x1024, .f32⟩
  | 62 => ⟨S8x4096x1024, .f32⟩
  | 63 => ⟨S_, .f32⟩
  | 64 => ⟨S8x4096x1024, .f32⟩
  | 65 => ⟨S8x4096x1024, .f32⟩
  | 66 => ⟨S_, .f32⟩
  | 67 => ⟨S8x4096x1024, .f32⟩
  | 68 => ⟨S8x4096x1024, .f32⟩
  | 69 => ⟨S8x4096x1024, .f32⟩
  | 70 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_5 : Ref sig .tc := ⟨.hbm, 79, rfl⟩
abbrev main_v69 : Ref sig .tc := ⟨.hbm, 80, rfl⟩
abbrev main_v70 : Ref sig .tc := ⟨.hbm, 81, rfl⟩
abbrev main_cst_6 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_cst_7 : Ref sig .tc := ⟨.hbm, 113, rfl⟩
abbrev main_v101 : Ref sig .tc := ⟨.hbm, 114, rfl⟩
abbrev main_v102 : Ref sig .tc := ⟨.hbm, 115, rfl⟩
abbrev main_cst_8 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_cst_9 : Ref sig .tc := ⟨.hbm, 145, rfl⟩
abbrev main_v131 : Ref sig .tc := ⟨.hbm, 146, rfl⟩
abbrev main_v132 : Ref sig .tc := ⟨.hbm, 147, rfl⟩
abbrev main_cst_10 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_cst_11 : Ref sig .tc := ⟨.hbm, 175, rfl⟩
abbrev main_v159 : Ref sig .tc := ⟨.hbm, 176, rfl⟩
abbrev main_v160 : Ref sig .tc := ⟨.hbm, 177, rfl⟩
abbrev main_cst_12 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_call0_v0 : Ref sig .tc := ⟨.hbm, 189, rfl⟩
abbrev main_call0_v1 : Ref sig .tc := ⟨.hbm, 190, rfl⟩
abbrev main_call0_cst : Ref sig .tc := ⟨.hbm, 191, rfl⟩
abbrev main_call0_v2 : Ref sig .tc := ⟨.hbm, 192, rfl⟩
abbrev main_call0_v3 : Ref sig .tc := ⟨.hbm, 193, rfl⟩
abbrev main_call0_cst_0 : Ref sig .tc := ⟨.hbm, 194, rfl⟩
abbrev main_call0_v4 : Ref sig .tc := ⟨.hbm, 195, rfl⟩
abbrev main_call0_v5 : Ref sig .tc := ⟨.hbm, 196, rfl⟩
abbrev main_v171 : Ref sig .tc := ⟨.hbm, 197, rfl⟩
abbrev main_v172 : Ref sig .tc := ⟨.hbm, 198, rfl⟩

abbrev nD : Nat := 1
abbrev τ : Topo := Topo.v7x

variable {F : FTy → Type} [FloatOps F]
-- ==== Kernel3.lean ====
abbrev S8x4096x1024 : Shape := ⟨3, ![8, 4096, 1024]⟩
abbrev S16x1x3072 : Shape := ⟨3, ![16, 1, 3072]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S4 : Shape := ⟨1, ![4]⟩
abbrev S4x1x1 : Shape := ⟨3, ![4, 1, 1]⟩
abbrev S1x1024x1 : Shape := ⟨3, ![1, 1024, 1]⟩
abbrev S4x1024x1 : Shape := ⟨3, ![4, 1024, 1]⟩
abbrev S_ : Shape := ⟨0, ![]⟩
abbrev S4x1024x128 : Shape := ⟨3, ![4, 1024, 128]⟩
abbrev S4x128x1 : Shape := ⟨3, ![4, 128, 1]⟩
abbrev S1x1024 : Shape := ⟨2, ![1, 1024]⟩
abbrev S1x512 : Shape := ⟨2, ![1, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S8x4x1024x1024 : Shape := ⟨4, ![8, 4, 1024, 1024]⟩
abbrev S8x4x1024x512 : Shape := ⟨4, ![8, 4, 1024, 512]⟩
abbrev S8x4x2x1024x512 : Shape := ⟨5, ![8, 4, 2, 1024, 512]⟩
abbrev S1x4x256x1024 : Shape := ⟨4, ![1, 4, 256, 1024]⟩
abbrev S1x1x3072 : Shape := ⟨3, ![1, 1, 3072]⟩
abbrev S4x256x128 : Shape := ⟨3, ![4, 256, 128]⟩
abbrev S1x4x256x512 : Shape := ⟨4, ![1, 4, 256, 512]⟩
abbrev S1x4x2x256x512 : Shape := ⟨5, ![1, 4, 2, 256, 512]⟩
abbrev S4x256x1024 : Shape := ⟨3, ![4, 256, 1024]⟩
abbrev S1024x1024 : Shape := ⟨2, ![1024, 1024]⟩
abbrev S1x3072 : Shape := ⟨2, ![1, 3072]⟩
abbrev S1024x1 : Shape := ⟨2, ![1024, 1]⟩
abbrev S1024x512 : Shape := ⟨2, ![1024, 512]⟩
abbrev S1x128x128 : Shape := ⟨3, ![1, 128, 128]⟩
abbrev S1x1x128x128 : Shape := ⟨4, ![1, 1, 128, 128]⟩
abbrev S4x256x512 : Shape := ⟨3, ![4, 256, 512]⟩
abbrev S256x128 : Shape := ⟨2, ![256, 128]⟩
abbrev S256x256 : Shape := ⟨2, ![256, 256]⟩
abbrev S1x1x1x256x128 : Shape := ⟨5, ![1, 1, 1, 256, 128]⟩
abbrev S1x256x128 : Shape := ⟨3, ![1, 256, 128]⟩

abbrev nBuf : Space → Nat
  | .hbm => 72
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S16x1x3072, .f32⟩
  | .hbm, ⟨2, _⟩ => ⟨S1024, .f32⟩
  | .hbm, ⟨3, _⟩ => ⟨S1024x2560, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S4, .i32⟩
  | .hbm, ⟨8, _⟩ => ⟨S4x1x1, .i32⟩
  | .hbm, ⟨9, _⟩ => ⟨S1024, .i32⟩
  | .hbm, ⟨10, _⟩ => ⟨S1x1024x1, .i32⟩
  | .hbm, ⟨11, _⟩ => ⟨S4x1024x1, .i32⟩
  | .hbm, ⟨12, _⟩ => ⟨S4x1024x1, .i32⟩
  | .hbm, ⟨13, _⟩ => ⟨S4x1024x1, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S4x1024x1, .i32⟩
  | .hbm, ⟨21, _⟩ => ⟨S4x1024x1, .i32⟩
  | .hbm, ⟨22, _⟩ => ⟨S_, .i32⟩
  | .hbm, ⟨23, _⟩ => ⟨S4x1024x1, .i32⟩
  | .hbm, ⟨24, _⟩ => ⟨S4x1024x1, .i1⟩
  | .hbm, ⟨25, _⟩ => ⟨S_, .i32⟩
  | .hbm, ⟨26, _⟩ => ⟨S4x1024x1, .i32⟩
  | .hbm, ⟨27, _⟩ => ⟨S4x1024x1, .i1⟩
  | .hbm, ⟨28, _⟩ => ⟨S_, .i32⟩
  | .hbm, ⟨29, _⟩ => ⟨S_, .i1⟩
  | .hbm, ⟨30, _⟩ => ⟨S4x1024x1, .i1⟩
  | .hbm, ⟨31, _⟩ => ⟨S4x1024x1, .i1⟩
  | .hbm, ⟨32, _⟩ => ⟨S4x1024x1, .i1⟩
  | .hbm, ⟨33, _⟩ => ⟨S4x1024x1, .i32⟩
  | .hbm, ⟨34, _⟩ => ⟨S4x1024x1, .i32⟩
  | .hbm, ⟨35, _⟩ => ⟨S4x1024x1, .i32⟩
  | .hbm, ⟨36, _⟩ => ⟨S4x1024x1, .f32⟩
  | .hbm, ⟨37, _⟩ => ⟨S_, .f32⟩
  | .hbm, ⟨38, _⟩ => ⟨S4x1024x1, .f32⟩
  | .hbm, ⟨39, _⟩ => ⟨S4x1024x1, .f32⟩
  | .hbm, ⟨40, _⟩ => ⟨S_, .f32⟩
  | .hbm, ⟨41, _⟩ => ⟨S4x1024x1, .f32⟩
  | .hbm, ⟨42, _⟩ => ⟨S4x1024x1, .f32⟩
  | .hbm, ⟨43, _⟩ => ⟨S4x1024x128, .f32⟩
  | .hbm, ⟨44, _⟩ => ⟨S4x1024x128, .f32⟩
  | .hbm, ⟨45, _⟩ => ⟨S4x1024x128, .f32⟩
  | .hbm, ⟨46, _⟩ => ⟨S4x128x1, .f32⟩
  | .hbm, ⟨47, _⟩ => ⟨S4x128x128, .f32⟩
  | .hbm, ⟨48, _⟩ => ⟨S1x1024, .f32⟩
  | .hbm, ⟨49, _⟩ => ⟨S1024x2560, .bf16⟩
  | .hbm, ⟨50, _⟩ => ⟨S1x512, .f32⟩
  | .hbm, ⟨51, _⟩ => ⟨S4x128x128, .bf16⟩
  | .hbm, ⟨52, _⟩ => ⟨S128, .i32⟩
  | .hbm, ⟨53, _⟩ => ⟨S128, .f32⟩
  | .hbm, ⟨54, _⟩ => ⟨S128x1, .f32⟩
  | .hbm, ⟨55, _⟩ => ⟨S_, .f32⟩
  | .hbm, ⟨56, _⟩ => ⟨S128x1, .f32⟩
  | .hbm, ⟨57, _⟩ => ⟨S128x1, .f32⟩
  | .hbm, ⟨58, _⟩ => ⟨S1x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S_, .f32⟩
  | .hbm, ⟨63, _⟩ => ⟨S128x128, .f32⟩
  | .hbm, ⟨64, _⟩ => ⟨S128x128, .f32⟩
  | .hbm, ⟨65, _⟩ => ⟨S128x128, .f32⟩
  | .hbm, ⟨66, _⟩ => ⟨S128x128, .f32⟩
  | .hbm, ⟨67, _⟩ => ⟨S128x256, .f32⟩
  | .hbm, ⟨68, _⟩ => ⟨S8x4x1024x1024, .f32⟩
  | .hbm, ⟨69, _⟩ => ⟨S8x4x1024x512, .bf16⟩
  | .hbm, ⟨70, _⟩ => ⟨S8x4x1024x512, .bf16⟩
  | .hbm, ⟨71, _⟩ => ⟨S8x4x2x1024x512, .bf16⟩
  | .local _ .vmem, ⟨0, _⟩ => ⟨S1x4x256x1024, .f32⟩
  | .local _ .vmem, ⟨1, _⟩ => ⟨S1x4x256x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x2560, .bf16⟩
  | .local _ .vmem, ⟨6, _⟩ => ⟨S1x512, .f32⟩
  | .local _ .vmem, ⟨7, _⟩ => ⟨S4x128x128, .bf16⟩
  | .local _ .vmem, ⟨8, _⟩ => ⟨S4x128x128, .f32⟩
  | .local _ .vmem, ⟨9, _⟩ => ⟨S128x256, .f32⟩
  | .local _ .vmem, ⟨10, _⟩ => ⟨S4x256x128, .f32⟩
  | .local _ .vmem, ⟨11, _⟩ => ⟨S4x256x128, .f32⟩
  | .local _ .vmem, ⟨12, _⟩ => ⟨S4x256x128, .f32⟩
  | .local _ .vmem, ⟨13, _⟩ => ⟨S4x256x128, .f32⟩
  | .local _ .vmem, ⟨14, _⟩ => ⟨S1x4x256x512, .bf16⟩
  | .local _ .vmem, ⟨15, _⟩ => ⟨S1x4x256x512, .bf16⟩
  | .local _ .vmem, ⟨16, _⟩ => ⟨S1x4x256x512, .bf16⟩
  | .local _ .vmem, ⟨17, _⟩ => ⟨S1x4x256x512, .bf16⟩
  | .local _ .vmem, ⟨18, _⟩ => ⟨S1x4x2x256x512, .bf16⟩
  | .local _ .vmem, ⟨19, _⟩ => ⟨S1x4x2x256x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_v10 : Ref sig .tc := ⟨.hbm, 39, rfl⟩
abbrev main_cst_0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_1 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_2 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37_0 : Ref sig .tc := ⟨.hbm, 69, rfl⟩
abbrev main_v37_1 : Ref sig .tc := ⟨.hbm, 70, rfl⟩
abbrev main_v37_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S4x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x4x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x2x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8x4096x1024 : Shape := ⟨3, ![8, 4096, 1024]⟩
abbrev S16x1x3072 : Shape := ⟨3, ![16, 1, 3072]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S8x1x3072 : Shape := ⟨3, ![8, 1, 3072]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2560 : Shape := ⟨3, ![8, 4096, 2560]⟩
abbrev S8x4096x512 : Shape := ⟨3, ![8, 4096, 512]⟩
abbrev S1x1x512 : Shape := ⟨3, ![1, 1, 512]⟩
abbrev S8x32x128x4x128 : Shape := ⟨5, ![8, 32, 128, 4, 128]⟩
abbrev S4x128x8x32x128 : Shape := ⟨5, ![4, 128, 8, 32, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S8x4x1024x512 : Shape := ⟨4, ![8, 4, 1024, 512]⟩

abbrev nBuf : Space → Nat
  | .hbm => 97
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x1x3072, .f32⟩
  | .hbm, ⟨2, _⟩ => ⟨S1024, .f32⟩
  | .hbm, ⟨3, _⟩ => ⟨S1024x2560, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S8x1x3072, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x2560, .f32⟩
  | .hbm, ⟨35, _⟩ => ⟨S8x4096x512, .f32⟩
  | .hbm, ⟨36, _⟩ => ⟨S8x4096x512, .f32⟩
  | .hbm, ⟨37, _⟩ => ⟨S8x4096x512, .f32⟩
  | .hbm, ⟨38, _⟩ => ⟨S8x4096x512, .f32⟩
  | .hbm, ⟨39, _⟩ => ⟨S8x4096x512, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x512, .f32⟩
  | .hbm, ⟨47, _⟩ => ⟨S8x4096x512, .f32⟩
  | .hbm, ⟨48, _⟩ => ⟨S8x4096x512, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S8x4096x1, .f32⟩
  | .hbm, ⟨59, _⟩ => ⟨S8x4096x512, .f32⟩
  | .hbm, ⟨60, _⟩ => ⟨S8x4096x512, .f32⟩
  | .hbm, ⟨61, _⟩ => ⟨S1x1x512, .f32⟩
  | .hbm, ⟨62, _⟩ => ⟨S8x4096x512, .f32⟩
  | .hbm, ⟨63, _⟩ => ⟨S8x4096x512, .f32⟩
  | .hbm, ⟨64, _⟩ => ⟨S8x32x128x4x128, .f32⟩
  | .hbm, ⟨65, _⟩ => ⟨S4x128x8x32x128, .f32⟩
  | .hbm, ⟨66, _⟩ => ⟨S8x32x128x4x128, .f32⟩
  | .hbm, ⟨67, _⟩ => ⟨S128x4, .f32⟩
  | .hbm, ⟨68, _⟩ => ⟨S128x4x1, .f32⟩
  | .hbm, ⟨69, _⟩ => ⟨S1x1x128x4x1, .f32⟩
  | .hbm, ⟨70, _⟩ => ⟨S8x32x128x4x128, .f32⟩
  | .hbm, ⟨71, _⟩ => ⟨S8x32x128x4x128, .f32⟩
  | .hbm, ⟨72, _⟩ => ⟨S8x4096x512, .f32⟩
  | .hbm, ⟨73, _⟩ => ⟨S8x4096x512, .f32⟩
  | .hbm, ⟨74, _⟩ => ⟨S8x4096x512, .f32⟩
  | .hbm, ⟨75, _⟩ => ⟨S8x4096x512, .f32⟩
  | .hbm, ⟨76, _⟩ => ⟨S_, .f32⟩
  | .hbm, ⟨77, _⟩ => ⟨S8x4096x512, .f32⟩
  | .hbm, ⟨78, _⟩ => ⟨S8x4096x512, .f32⟩
  | .hbm, ⟨79, _⟩ => ⟨S_, .f32⟩
  | .hbm, ⟨80, _⟩ => ⟨S8x4096x512, .f32⟩
  | .hbm, ⟨81, _⟩ => ⟨S8x4096x512, .f32⟩
  | .hbm, ⟨82, _⟩ => ⟨S8x4096x512, .f32⟩
  | .hbm, ⟨83, _⟩ => ⟨S8x4096x512, .f32⟩
  | .hbm, ⟨84, _⟩ => ⟨S8x4096x512, .bf16⟩
  | .hbm, ⟨85, _⟩ => ⟨S8x4x1024x512, .bf16⟩
  | .hbm, ⟨86, _⟩ => ⟨S8x4096x512, .f32⟩
  | .hbm, ⟨87, _⟩ => ⟨S8x4096x512, .f32⟩
  | .hbm, ⟨88, _⟩ => ⟨S_, .f32⟩
  | .hbm, ⟨89, _⟩ => ⟨S8x4096x512, .f32⟩
  | .hbm, ⟨90, _⟩ => ⟨S8x4096x512, .f32⟩
  | .hbm, ⟨91, _⟩ => ⟨S_, .f32⟩
  | .hbm, ⟨92, _⟩ => ⟨S8x4096x512, .f32⟩
  | .hbm, ⟨93, _⟩ => ⟨S8x4096x512, .f32⟩
  | .hbm, ⟨94, _⟩ => ⟨S8x4096x512, .f32⟩
  | .hbm, ⟨95, _⟩ => ⟨S8x4096x512, .bf16⟩
  | .hbm, ⟨96, _⟩ => ⟨S8x4x1024x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== Kernel4.lean ====
abbrev S8x4x1024x512 : Shape := ⟨4, ![8, 4, 1024, 512]⟩
abbrev S8x4096x512 : Shape := ⟨3, ![8, 4096, 512]⟩
abbrev S8x4096x1024 : Shape := ⟨3, ![8, 4096, 1024]⟩
abbrev S16x1x3072 : Shape := ⟨3, ![16, 1, 3072]⟩
abbrev S1024x1024 : Shape := ⟨2, ![1024, 1024]⟩
abbrev S8x4x1x1024x512 : Shape := ⟨5, ![8, 4, 1, 1024, 512]⟩
abbrev S8x4x2x1024x512 : Shape := ⟨5, ![8, 4, 2, 1024, 512]⟩
abbrev S1024 : Shape := ⟨1, ![1024]⟩
abbrev S1024x1 : Shape := ⟨2, ![1024, 1]⟩
abbrev S1x1024 : Shape := ⟨2, ![1, 1024]⟩
abbrev S_ : Shape := ⟨0, ![]⟩
abbrev S1024x2048 : Shape := ⟨2, ![1024, 2048]⟩
abbrev S8x4x2048x512 : Shape := ⟨4, ![8, 4, 2048, 512]⟩
abbrev S1x4x2048x512 : Shape := ⟨4, ![1, 4, 2048, 512]⟩
abbrev S1x1024x512 : Shape := ⟨3, ![1, 1024, 512]⟩
abbrev S1x1024x1024 : Shape := ⟨3, ![1, 1024, 1024]⟩
abbrev S1x1x3072 : Shape := ⟨3, ![1, 1, 3072]⟩
abbrev S4x1024x128 : Shape := ⟨3, ![4, 1024, 128]⟩
abbrev S256x2048 : Shape := ⟨2, ![256, 2048]⟩
abbrev S1x1x2048x512 : Shape := ⟨4, ![1, 1, 2048, 512]⟩
abbrev S2048x512 : Shape := ⟨2, ![2048, 512]⟩
abbrev S256x512 : Shape := ⟨2, ![256, 512]⟩
abbrev S256x128 : Shape := ⟨2, ![256, 128]⟩
abbrev S1x256x128 : Shape := ⟨3, ![1, 256, 128]⟩
abbrev S1x1024x128 : Shape := ⟨3, ![1, 1024, 128]⟩
abbrev S1024x128 : Shape := ⟨2, ![1024, 128]⟩
abbrev S1024x512 : Shape := ⟨2, ![1024, 512]⟩
abbrev S512x1024 : Shape := ⟨2, ![512, 1024]⟩
abbrev S1x3072 : Shape := ⟨2, ![1, 3072]⟩

abbrev nBuf : Space → Nat
  | .hbm => 39
  | .vmem => 15
  | .smem => 0
  | _ => 0

abbrev bufTy : (tb : Table) → Fin (tcTables nBuf tb) → BufTy
  | .hbm, ⟨0, _⟩ => ⟨S8x4x1024x512, .f32⟩
  | .hbm, ⟨1, _⟩ => ⟨S8x4x1024x512, .f32⟩
  | .hbm, ⟨2, _⟩ => ⟨S8x4096x512, .f32⟩
  | .hbm, ⟨3, _⟩ => ⟨S8x4096x512, .f32⟩
  | .hbm, ⟨4, _⟩ => ⟨S8x4096x1024, .f32⟩
  | .hbm, ⟨5, _⟩ => ⟨S16x1x3072, .f32⟩
  | .hbm, ⟨6, _⟩ => ⟨S1024x1024, .f32⟩
  | .hbm, ⟨7, _⟩ => ⟨S8x4x1x1024x512, .f32⟩
  | .hbm, ⟨8, _⟩ => ⟨S8x4x1x1024x512, .f32⟩
  | .hbm, ⟨9, _⟩ => ⟨S8x4x2x1024x512, .f32⟩
  | .hbm, ⟨10, _⟩ => ⟨S8x4x2x1024x512, .bf16⟩
  | .hbm, ⟨11, _⟩ => ⟨S1024, .i32⟩
  | .hbm, ⟨12, _⟩ => ⟨S1024, .f32⟩
  | .hbm, ⟨13, _⟩ => ⟨S1024x1, .f32⟩
  | .hbm, ⟨14, _⟩ => ⟨S1x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x2048, .f32⟩
  | .hbm, ⟨34, _⟩ => ⟨S8x4096x512, .bf16⟩
  | .hbm, ⟨35, _⟩ => ⟨S8x4096x512, .bf16⟩
  | .hbm, ⟨36, _⟩ => ⟨S1024x1024, .bf16⟩
  | .hbm, ⟨37, _⟩ => ⟨S8x4x2048x512, .bf16⟩
  | .hbm, ⟨38, _⟩ => ⟨S8x4096x1024, .f32⟩
  | .local _ .vmem, ⟨0, _⟩ => ⟨S1024x2048, .f32⟩
  | .local _ .vmem, ⟨1, _⟩ => ⟨S1x4x2048x512, .bf16⟩
  | .local _ .vmem, ⟨2, _⟩ => ⟨S1x4x2048x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x1024, .f32⟩
  | .local _ .vmem, ⟨8, _⟩ => ⟨S1x1024x1024, .f32⟩
  | .local _ .vmem, ⟨9, _⟩ => ⟨S1x1x3072, .f32⟩
  | .local _ .vmem, ⟨10, _⟩ => ⟨S1x1x3072, .f32⟩
  | .local _ .vmem, ⟨11, _⟩ => ⟨S1024x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S4x1024x128, .f32⟩
  | _, _ => ⟨S8x4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8x4x1024x512 : Shape := ⟨4, ![8, 4, 1024, 512]⟩
abbrev S8x4096x512 : Shape := ⟨3, ![8, 4096, 512]⟩
abbrev S8x4096x1024 : Shape := ⟨3, ![8, 4096, 1024]⟩
abbrev S16x1x3072 : Shape := ⟨3, ![16, 1, 3072]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S_ : Shape := ⟨0, ![]⟩
abbrev S8x4x512x1024 : Shape := ⟨4, ![8, 4, 512, 1024]⟩
abbrev S8x1024x4x512 : Shape := ⟨4, ![8, 1024, 4, 512]⟩
abbrev S8x1x3072 : Shape := ⟨3, ![8, 1, 3072]⟩
abbrev S8x1x1024 : Shape := ⟨3, ![8, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x4x1024x512, .f32⟩
  | .hbm, ⟨1, _⟩ => ⟨S8x4x1024x512, .f32⟩
  | .hbm, ⟨2, _⟩ => ⟨S8x4096x512, .f32⟩
  | .hbm, ⟨3, _⟩ => ⟨S8x4096x512, .f32⟩
  | .hbm, ⟨4, _⟩ => ⟨S8x4096x1024, .f32⟩
  | .hbm, ⟨5, _⟩ => ⟨S16x1x3072, .f32⟩
  | .hbm, ⟨6, _⟩ => ⟨S1024x1024, .f32⟩
  | .hbm, ⟨7, _⟩ => ⟨S1024, .i32⟩
  | .hbm, ⟨8, _⟩ => ⟨S1024, .f32⟩
  | .hbm, ⟨9, _⟩ => ⟨S1024x1, .f32⟩
  | .hbm, ⟨10, _⟩ => ⟨S1024, .i32⟩
  | .hbm, ⟨11, _⟩ => ⟨S1024, .f32⟩
  | .hbm, ⟨12, _⟩ => ⟨S1x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S8x4x512x1024, .f32⟩
  | .hbm, ⟨32, _⟩ => ⟨S8x1024x4x512, .f32⟩
  | .hbm, ⟨33, _⟩ => ⟨S8x4x512x1024, .f32⟩
  | .hbm, ⟨34, _⟩ => ⟨S8x1024x4x512, .f32⟩
  | .hbm, ⟨35, _⟩ => ⟨S8x1024x4x512, .f32⟩
  | .hbm, ⟨36, _⟩ => ⟨S8x4096x512, .f32⟩
  | .hbm, ⟨37, _⟩ => ⟨S8x4096x512, .f32⟩
  | .hbm, ⟨38, _⟩ => ⟨S8x4096x1024, .f32⟩
  | .hbm, ⟨39, _⟩ => ⟨S8x4096x1024, .f32⟩
  | .hbm, ⟨40, _⟩ => ⟨S8x1x3072, .f32⟩
  | .hbm, ⟨41, _⟩ => ⟨S8x1x1024, .f32⟩
  | .hbm, ⟨42, _⟩ => ⟨S8x1x1024, .f32⟩
  | .hbm, ⟨43, _⟩ => ⟨S8x1x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | _, _ => ⟨S8x4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Blocks.lean ====
/- The blocks a grid point's body reads, at an index, as the arguments: the host's preparation of the arrays (queries scaled,
   every head's keys twice, values transposed, sinks spread over the columns) and the place of each window's block. -/
module

public import proofs.«01_k».proof.Proof.Gen.KernelIdeal.Frame
public import Idealize.ShloMosaic.Lib.Pointwise
public import Idealize.ShloMosaic.Lib.Pipeline.ValueKit.Point

@[expose] public section

set_option maxRecDepth 16384

noncomputable section

namespace Cert.Attn

open Idealize.ShloMosaic Idealize.ShloMosaic.TcCoe Idealize.SL.Sem Cert.KernelIdeal Cert.KernelIdeal.Gen

variable (m : (ℓ : Loc nD τ sig) → Buf (Elt Ideal) ℓ) (c : Dev nD) (t : Fin cfg0.N)

/-- The batch of a grid point. -/
def bOf (t : Fin cfg0.N) : Fin 8 := grid0.coords t 0
/-- The stretch of 512 rows of a grid point. -/
def nOf (t : Fin cfg0.N) : Fin 8 := grid0.coords t 1

/-! ## The arguments -/

/-- The queries. -/
def argQ (b : Fin 8) (r : Fin 4096) (l : Fin 1024) : EReal := m ((c : Thread nD τ).loc main_arg0) (ix3 b r l)
/-- The keys. -/
def argK (b : Fin 8) (r : Fin 4096) (l : Fin 256) : EReal := m ((c : Thread nD τ).loc main_arg1) (ix3 b r l)
/-- The values. -/
def argV (b : Fin 8) (r : Fin 4096) (l : Fin 256) : EReal := m ((c : Thread nD τ).loc main_arg2) (ix3 b r l)
/-- The context's keys. -/
def argKc (b : Fin 8) (r : Fin 256) (l : Fin 256) : EReal := m ((c : Thread nD τ).loc main_arg3) (ix3 b r l)
/-- The context's values. -/
def argVc (b : Fin 8) (r : Fin 256) (l : Fin 256) : EReal := m ((c : Thread nD τ).loc main_arg4) (ix3 b r l)
/-- The sinks. -/
def argSink (h : Fin 16) : EReal := m ((c : Thread nD τ).loc main_arg5) (ix1 h)
/-- The attention's gate. -/
def argSg (b : Fin 8) (r : Fin 4096) (l : Fin 1024) : EReal := m ((c : Thread nD τ).loc main_arg6) (ix3 b r l)
/-- The residual stream. -/
def argX (b : Fin 8) (r : Fin 4096) (l : Fin 1024) : EReal := m ((c : Thread nD τ).loc main_arg7) (ix3 b r l)
/-- The modulation. -/
def argMod (b : Fin 16) (l : Fin 3072) : EReal := m ((c : Thread nD τ).loc main_arg8) (ix3 b 0 l)
/-- The output projection. -/
def argW (r l : Fin 1024) : EReal := m ((c : Thread nD τ).loc main_arg9) (ix2 r l)
/-- The final norm's scale. -/
def argFg (l : Fin 1024) : EReal := m ((c : Thread nD τ).loc main_arg10) (ix1 l)

/-! ## The arrays the host prepares -/

theorem ofBits_eighth : Ideal.ofBits .f32 0x3E000000#32 = (((1 : ℝ) / 8 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- The queries, scaled by 1/8 and from base e to base two. -/
theorem V_q (b : Fin 8) (r : Fin 4096) (l : Fin 1024) :
    V m c main_v5 (ix3 b r l) =
      Ideal.div (argQ m c b r l * (((1 : ℝ) / 8 : ℝ) : EReal)) ((Real.log 2 : ℝ) : EReal) := by
  entry_read
  pointwise [argQ]
  rw [ofBits_eighth, ofBits_two]
  show Ideal.div _ (Ideal.log ((2 : ℝ) : EReal)) = _
  rw [Ideal.log_coe, if_neg (by norm_num)]

/-- The keys, every head's 64 lanes twice. -/
theorem V_k (b : Fin 8) (r : Fin 4096) (l : Fin 512) :
    V m c main_v9 (ix3 b r l) = argK m c b r ⟨l.val / 128 * 64 + l.val % 64, by omega⟩ := by
  entry_read
  pointwise []
  unfold argK
  show (if h : _ then _ else _) = _
  split_ifs <;> exact congrArg _ (congrArg _ (Fin.ext (by dsimp only <;> omega)))

/-- The context's keys, every head's 64 lanes twice. -/
theorem V_kc (b : Fin 8) (r : Fin 256) (l : Fin 512) :
    V m c main_v15 (ix3 b r l) = argKc m c b r ⟨l.val / 128 * 64 + l.val % 64, by omega⟩ := by
  entry_read
  pointwise []
  unfold argKc
  show (if h : _ then _ else _) = _
  split_ifs <;> exact congrArg _ (congrArg _ (Fin.ext (by dsimp only <;> omega)))

/-- The values, transposed. -/
theorem V_v (b : Fin 8) (f : Fin 256) (r : Fin 4096) :
    V m c main_v11 (ix3 b f r) = argV m c b r f := by
  entry_read
  pointwise [argV]

/-- The context's values, transposed. -/
theorem V_vc (b : Fin 8) (f : Fin 256) (r : Fin 256) :
    V m c main_v17 (ix3 b f r) = argVc m c b r f := by
  entry_read
  pointwise [argVc]

theorem V_sg (b : Fin 8) (r : Fin 4096) (l : Fin 1024) :
    V m c main_v18 (ix3 b r l) = argSg m c b r l := by
  entry_read
  rfl

theorem V_w (r l : Fin 1024) : V m c main_v19 (ix2 r l) = argW m c r l := by
  entry_read
  rfl

theorem V_fg (l : Fin 1024) : V m c main_v20 (ix2 0 l) = argFg m c l := by
  entry_read
  pointwise [argFg]

/-- The sinks, spread over the 128 columns of their head. -/
theorem V_sink (h : Fin 4) (l : Fin 512) :
    V m c main_v23 (ix3 h 0 l) = argSink m c ⟨h.val * 4 + l.val / 128, by omega⟩ := by
  entry_read
  pointwise [argSink]

/-! ## The windows -/

theorem index_facts : ∀ t : Fin cfg0.N,
    win0_0.index t = ![0, 0, 0] ∧ win0_1.index t = ![(bOf t).val, (nOf t).val, 0] ∧
    win0_2.index t = ![(bOf t).val, 4 * (nOf t).val - 1, 0] ∧ win0_3.index t = ![(bOf t).val, (nOf t).val, 0] ∧
    win0_4.index t = ![(bOf t).val, min (4 * (nOf t).val + 4) 31, 0] ∧
    win0_5.index t = ![(bOf t).val, 0, 4 * (nOf t).val - 1] ∧ win0_6.index t = ![(bOf t).val, 0, (nOf t).val] ∧
    win0_7.index t = ![(bOf t).val, 0, min (4 * (nOf t).val + 4) 31] ∧
    win0_8.index t = ![(bOf t).val, 0, 0] ∧ win0_9.index t = ![(bOf t).val, 0, 0] ∧
    win0_10.index t = ![(bOf t).val, (nOf t).val, 0] ∧ win0_11.index t = ![(bOf t).val, (nOf t).val, 0] ∧
    win0_12.index t = ![(bOf t).val, 0, 0] ∧ win0_13.index t = ![0, 0] ∧ win0_14.index t = ![0, 0] ∧
    win0_15.index t = ![(bOf t).val, (nOf t).val, 0] :=
  (by decide +kernel : ∀ t : Fin grid0.N, _)

theorem read0 (X : Buf (Elt Ideal) ((c : Thread nD τ).loc main_v23)) (h : Fin 4) (l : Fin 512) :
    ((cfg0.win 0).blk t).view.read (Elt Ideal) X (ix3 h 0 l) = X (ix3 h 0 l) := by
  have h := (index_facts t).1
  blk_ext [h]
theorem blk0 (h : Fin 4) (l : Fin 512) : iblk m c 0 t (ix3 h 0 l) =
    V m c main_v23 (ix3 h 0 l) :=
  read0 c t (V m c main_v23) h l

theorem read1 (X : Buf (Elt Ideal) ((c : Thread nD τ).loc main_v5)) (r : Fin 512) (l : Fin 1024) :
    ((cfg0.win 1).blk t).view.read (Elt Ideal) X (ix3 0 r l) = X (ix3 (bOf t) ⟨(nOf t).val * 512 + r.val, by omega⟩ l) := by
  have h := (index_facts t).2.1
  blk_ext [h]
theorem blk1 (r : Fin 512) (l : Fin 1024) : iblk m c 1 t (ix3 0 r l) =
    V m c main_v5 (ix3 (bOf t) ⟨(nOf t).val * 512 + r.val, by omega⟩ l) :=
  read1 c t (V m c main_v5) r l

theorem read2 (X : Buf (Elt Ideal) ((c : Thread nD τ).loc main_v9)) (r : Fin 128) (l : Fin 512) :
    ((cfg0.win 2).blk t).view.read (Elt Ideal) X (ix3 0 r l) = X (ix3 (bOf t) ⟨(4 * (nOf t).val - 1) * 128 + r.val, by omega⟩ l) := by
  have h := (index_facts t).2.2.1
  blk_ext [h]
theorem blk2 (r : Fin 128) (l : Fin 512) : iblk m c 2 t (ix3 0 r l) =
    V m c main_v9 (ix3 (bOf t) ⟨(4 * (nOf t).val - 1) * 128 + r.val, by omega⟩ l) :=
  read2 c t (V m c main_v9) r l

theorem read3 (X : Buf (Elt Ideal) ((c : Thread nD τ).loc main_v9)) (r : Fin 512) (l : Fin 512) :
    ((cfg0.win 3).blk t).view.read (Elt Ideal) X (ix3 0 r l) = X (ix3 (bOf t) ⟨(nOf t).val * 512 + r.val, by omega⟩ l) := by
  have h := (index_facts t).2.2.2.1
  blk_ext [h]
theorem blk3 (r : Fin 512) (l : Fin 512) : iblk m c 3 t (ix3 0 r l) =
    V m c main_v9 (ix3 (bOf t) ⟨(nOf t).val * 512 + r.val, by omega⟩ l) :=
  read3 c t (V m c main_v9) r l

theorem read4 (X : Buf (Elt Ideal) ((c : Thread nD τ).loc main_v9)) (r : Fin 128) (l : Fin 512) :
    ((cfg0.win 4).blk t).view.read (Elt Ideal) X (ix3 0 r l) = X (ix3 (bOf t) ⟨min (4 * (nOf t).val + 4) 31 * 128 + r.val, by omega⟩ l) := by
  have h := (index_facts t).2.2.2.2.1
  blk_ext [h]
theorem blk4 (r : Fin 128) (l : Fin 512) : iblk m c 4 t (ix3 0 r l) =
    V m c main_v9 (ix3 (bOf t) ⟨min (4 * (nOf t).val + 4) 31 * 128 + r.val, by omega⟩ l) :=
  read4 c t (V m c main_v9) r l

theorem read5 (X : Buf (Elt Ideal) ((c : Thread nD τ).loc main_v11)) (f : Fin 256) (r : Fin 128) :
    ((cfg0.win 5).blk t).view.read (Elt Ideal) X (ix3 0 f r) = X (ix3 (bOf t) f ⟨(4 * (nOf t).val - 1) * 128 + r.val, by omega⟩) := by
  have h := (index_facts t).2.2.2.2.2.1
  blk_ext [h]
theorem blk5 (f : Fin 256) (r : Fin 128) : iblk m c 5 t (ix3 0 f r) =
    V m c main_v11 (ix3 (bOf t) f ⟨(4 * (nOf t).val - 1) * 128 + r.val, by omega⟩) :=
  read5 c t (V m c main_v11) f r

theorem read6 (X : Buf (Elt Ideal) ((c : Thread nD τ).loc main_v11)) (f : Fin 256) (r : Fin 512) :
    ((cfg0.win 6).blk t).view.read (Elt Ideal) X (ix3 0 f r) = X (ix3 (bOf t) f ⟨(nOf t).val * 512 + r.val, by omega⟩) := by
  have h := (index_facts t).2.2.2.2.2.2.1
  blk_ext [h]
theorem blk6 (f : Fin 256) (r : Fin 512) : iblk m c 6 t (ix3 0 f r) =
    V m c main_v11 (ix3 (bOf t) f ⟨(nOf t).val * 512 + r.val, by omega⟩) :=
  read6 c t (V m c main_v11) f r

theorem read7 (X : Buf (Elt Ideal) ((c : Thread nD τ).loc main_v11)) (f : Fin 256) (r : Fin 128) :
    ((cfg0.win 7).blk t).view.read (Elt Ideal) X (ix3 0 f r) = X (ix3 (bOf t) f ⟨min (4 * (nOf t).val + 4) 31 * 128 + r.val, by omega⟩) := by
  have h := (index_facts t).2.2.2.2.2.2.2.1
  blk_ext [h]
theorem blk7 (f : Fin 256) (r : Fin 128) : iblk m c 7 t (ix3 0 f r) =
    V m c main_v11 (ix3 (bOf t) f ⟨min (4 * (nOf t).val + 4) 31 * 128 + r.val, by omega⟩) :=
  read7 c t (V m c main_v11) f r

theorem read8 (X : Buf (Elt Ideal) ((c : Thread nD τ).loc main_v15)) (r : Fin 256) (l : Fin 512) :
    ((cfg0.win 8).blk t).view.read (Elt Ideal) X (ix3 0 r l) = X (ix3 (bOf t) r l) := by
  have h := (index_facts t).2.2.2.2.2.2.2.2.1
  blk_ext [h]
theorem blk8 (r : Fin 256) (l : Fin 512) : iblk m c 8 t (ix3 0 r l) =
    V m c main_v15 (ix3 (bOf t) r l) :=
  read8 c t (V m c main_v15) r l

theorem read9 (X : Buf (Elt Ideal) ((c : Thread nD τ).loc main_v17)) (f r : Fin 256) :
    ((cfg0.win 9).blk t).view.read (Elt Ideal) X (ix3 0 f r) = X (ix3 (bOf t) f r) := by
  have h := (index_facts t).2.2.2.2.2.2.2.2.2.1
  blk_ext [h]
theorem blk9 (f r : Fin 256) : iblk m c 9 t (ix3 0 f r) =
    V m c main_v17 (ix3 (bOf t) f r) :=
  read9 c t (V m c main_v17) f r

theorem read10 (X : Buf (Elt Ideal) ((c : Thread nD τ).loc main_v18)) (r : Fin 512) (l : Fin 1024) :
    ((cfg0.win 10).blk t).view.read (Elt Ideal) X (ix3 0 r l) = X (ix3 (bOf t) ⟨(nOf t).val * 512 + r.val, by omega⟩ l) := by
  have h := (index_facts t).2.2.2.2.2.2.2.2.2.2.1
  blk_ext [h]
theorem blk10 (r : Fin 512) (l : Fin 1024) : iblk m c 10 t (ix3 0 r l) =
    V m c main_v18 (ix3 (bOf t) ⟨(nOf t).val * 512 + r.val, by omega⟩ l) :=
  read10 c t (V m c main_v18) r l

theorem read11 (X : Buf (Elt Ideal) ((c : Thread nD τ).loc main_arg7)) (r : Fin 512) (l : Fin 1024) :
    ((cfg0.win 11).blk t).view.read (Elt Ideal) X (ix3 0 r l) = X (ix3 (bOf t) ⟨(nOf t).val * 512 + r.val, by omega⟩ l) := by
  have h := (index_facts t).2.2.2.2.2.2.2.2.2.2.2.1
  blk_ext [h]
theorem blk11 (r : Fin 512) (l : Fin 1024) : iblk m c 11 t (ix3 0 r l) =
    V m c main_arg7 (ix3 (bOf t) ⟨(nOf t).val * 512 + r.val, by omega⟩ l) :=
  read11 c t (V m c main_arg7) r l

theorem read12 (X : Buf (Elt Ideal) ((c : Thread nD τ).loc main_arg8)) (l : Fin 3072) :
    ((cfg0.win 12).blk t).view.read (Elt Ideal) X (ix3 0 0 l) = X (ix3 (⟨(bOf t).val, by omega⟩ : Fin 16) 0 l) := by
  have h := (index_facts t).2.2.2.2.2.2.2.2.2.2.2.2.1
  blk_ext [h]
theorem blk12 (l : Fin 3072) : iblk m c 12 t (ix3 0 0 l) =
    V m c main_arg8 (ix3 (⟨(bOf t).val, by omega⟩ : Fin 16) 0 l) :=
  read12 c t (V m c main_arg8) l

theorem read13 (X : Buf (Elt Ideal) ((c : Thread nD τ).loc main_v19)) (r l : Fin 1024) :
    ((cfg0.win 13).blk t).view.read (Elt Ideal) X (ix2 r l) = X (ix2 r l) := by
  have h := (index_facts t).2.2.2.2.2.2.2.2.2.2.2.2.2.1
  blk_ext [h]
theorem blk13 (r l : Fin 1024) : iblk m c 13 t (ix2 r l) =
    V m c main_v19 (ix2 r l) :=
  read13 c t (V m c main_v19) r l

theorem read14 (X : Buf (Elt Ideal) ((c : Thread nD τ).loc main_v20)) (l : Fin 1024) :
    ((cfg0.win 14).blk t).view.read (Elt Ideal) X (ix2 0 l) = X (ix2 0 l) := by
  have h := (index_facts t).2.2.2.2.2.2.2.2.2.2.2.2.2.2.1
  blk_ext [h]
theorem blk14 (l : Fin 1024) : iblk m c 14 t (ix2 0 l) =
    V m c main_v20 (ix2 0 l) :=
  read14 c t (V m c main_v20) l

end Cert.Attn

end
-- ==== Proof.Model.lean ====
/- What one grid point of the attention kernel leaves in its output block, written once for all sixteen pairs
   (block of 128 queries, key-value head) instead of sixteen times: the sixteen stretches of the kernel's body are
   the sixteen instances of `chainOut` (`out_eq_model`). -/
module

public import proofs.«01_k».proof.Proof.Gen.KernelIdeal.Frame

@[expose] public section

noncomputable section

namespace Cert.Attn

open Idealize.ShloMosaic Idealize.SL.Sem Cert.KernelIdeal Cert.KernelIdeal.Gen

variable {F : FTy → Type} [FloatOps F] [Named F]

/-! ## The loads -/

/-- Sink row of head `h`. -/
def ldSink (x : Vec F S4x1x512 .f32) (h : Fin 4) : Vec F S1x1x512 .f32 :=
  View.ld x (Rect.unit (s := S4x1x512) ![h.val, 0, 0] S1x1x512.size
    (by intro a; fin_cases a <;> simp [Shape.size] <;> omega))

/-- The half `c` of head `h`'s query lanes in query block `j`. -/
def ldQ (x : Vec F S1x512x1024 .bf16) (j h : Fin 4) (c : Fin 2) : Vec F S1x128x128 .bf16 :=
  View.ld x (Rect.unit (s := S1x512x1024) ![0, j.val * 128, h.val * 256 + c.val * 128] S1x128x128.size
    (by intro a; fin_cases a <;> simp [Shape.size] <;> omega))

/-- Head `h`'s lanes of the context keys. -/
def ldKx (x : Vec F S1x256x512 .bf16) (h : Fin 4) : Vec F S1x256x128 .bf16 :=
  View.ld x (Rect.unit (s := S1x256x512) ![0, 0, h.val * 128] S1x256x128.size
    (by intro a; fin_cases a <;> simp [Shape.size] <;> omega))

/-- Head `h`'s lanes of a block of 128 keys. -/
def ldKe (x : Vec F S1x128x512 .bf16) (h : Fin 4) : Vec F S1x128x128 .bf16 :=
  View.ld x (Rect.unit (s := S1x128x512) ![0, 0, h.val * 128] S1x128x128.size
    (by intro a; fin_cases a <;> simp [Shape.size] <;> omega))

/-- Head `h`'s lanes of block `t` of the four blocks of 128 keys. -/
def ldKc (x : Vec F S1x512x512 .bf16) (t h : Fin 4) : Vec F S1x128x128 .bf16 :=
  View.ld x (Rect.unit (s := S1x512x512) ![0, t.val * 128, h.val * 128] S1x128x128.size
    (by intro a; fin_cases a <;> simp [Shape.size] <;> omega))

/-- Key block `t` of the six a grid point sees: the one before its four, its four, the one after. -/
def ldK (xp : Vec F S1x128x512 .bf16) (xc : Vec F S1x512x512 .bf16) (xn : Vec F S1x128x512 .bf16) (h : Fin 4) :
    Fin 6 → Vec F S1x128x128 .bf16
  | 0 => ldKe xp h
  | 1 => ldKc xc 0 h
  | 2 => ldKc xc 1 h
  | 3 => ldKc xc 2 h
  | 4 => ldKc xc 3 h
  | 5 => ldKe xn h

/-- The rows of the pair of heads `p` of the context values. -/
def ldVx (x : Vec F S1x256x256 .bf16) (p : Fin 2) : Vec F S1x128x256 .bf16 :=
  View.ld x (Rect.unit (s := S1x256x256) ![0, p.val * 128, 0] S1x128x256.size
    (by intro a; fin_cases a <;> simp [Shape.size] <;> omega))

/-- The rows of the pair of heads `p` of a block of 128 values. -/
def ldVe (x : Vec F S1x256x128 .bf16) (p : Fin 2) : Vec F S1x128x128 .bf16 :=
  View.ld x (Rect.unit (s := S1x256x128) ![0, p.val * 128, 0] S1x128x128.size
    (by intro a; fin_cases a <;> simp [Shape.size] <;> omega))

/-- The rows of the pair of heads `p` of block `t` of the four blocks of 128 values. -/
def ldVc (x : Vec F S1x256x512 .bf16) (t : Fin 4) (p : Fin 2) : Vec F S1x128x128 .bf16 :=
  View.ld x (Rect.unit (s := S1x256x512) ![0, p.val * 128, t.val * 128] S1x128x128.size
    (by intro a; fin_cases a <;> simp [Shape.size] <;> omega))

/-- Value block `t` of the six a grid point sees. -/
def ldV (xp : Vec F S1x256x128 .bf16) (xc : Vec F S1x256x512 .bf16) (xn : Vec F S1x256x128 .bf16) (p : Fin 2) :
    Fin 6 → Vec F S1x128x128 .bf16
  | 0 => ldVe xp p
  | 1 => ldVc xc 0 p
  | 2 => ldVc xc 1 p
  | 3 => ldVc xc 2 p
  | 4 => ldVc xc 3 p
  | 5 => ldVe xn p

/-- Rows `256·r …` of an activation block. -/
def ldRows {e : EltTy} (x : Vec F S1x512x1024 e) (r : Fin 2) : Vec F S1x256x1024 e :=
  View.ld x (Rect.unit (s := S1x512x1024) ![0, r.val * 256, 0] S1x256x1024.size
    (by intro a; fin_cases a <;> simp [Shape.size] <;> omega))

/-- Columns `256·c …` of the output projection. -/
def ldW (x : Vec F S1024x1024 .bf16) (c : Fin 4) : Vec F S1024x256 .bf16 :=
  View.ld x (Rect.unit (s := S1024x1024) ![0, c.val * 256] S1024x256.size
    (by intro a; fin_cases a <;> simp [Shape.size] <;> omega))

/-! ## One chain -/

/-- The scores of a chain, keys down, queries (four heads of 128) across. -/
def scores (kx : Vec F S1x256x128 .bf16) (k0 k1 k2 q0 q1 : Vec F S1x128x128 .bf16) : FVec F S640x512 .f32 :=
  matmul dot_S640x128_S512x128_S640x512_1_1_0_0_n_n none
    (concatenate S640x128 0 [⟨S256x128, shapeCast S256x128 kx shapeCasts_S1x256x128_S256x128⟩,
      ⟨S128x128, shapeCast S128x128 k0 shapeCasts_S1x128x128_S128x128⟩,
      ⟨S128x128, shapeCast S128x128 k1 shapeCasts_S1x128x128_S128x128⟩,
      ⟨S128x128, shapeCast S128x128 k2 shapeCasts_S1x128x128_S128x128⟩]
      concatenates_S256x128_S128x128_S128x128_S128x128_S640x128_d0)
    (concatenate S512x128 0 [
      ⟨S128x128, select k0_pay6 (shapeCast S128x128 q0 shapeCasts_S1x128x128_S128x128) (k0_pay7 (F := F))⟩,
      ⟨S128x128, select k0_pay6 (k0_pay7 (F := F)) (shapeCast S128x128 q0 shapeCasts_S1x128x128_S128x128)⟩,
      ⟨S128x128, select k0_pay6 (shapeCast S128x128 q1 shapeCasts_S1x128x128_S128x128) (k0_pay7 (F := F))⟩,
      ⟨S128x128, select k0_pay6 (k0_pay7 (F := F)) (shapeCast S128x128 q1 shapeCasts_S1x128x128_S128x128)⟩]
      concatenates_S128x128_S128x128_S128x128_S128x128_S512x128_d0)
    (constant S640x512 .f32 0x00000000#32)

/-- A block of 128 keys' scores with a mask added in each of the four heads' columns. -/
def masked (b : FVec F S128x512 .f32) (msk : FVec F S128x128 .f32) : FVec F S128x512 .f32 :=
  concatenate S128x512 1 [
    ⟨S128x128, addf (extractStridedSlice S128x128 ![0, 0] b slices_S128x512_o0_0_S128x128) msk⟩,
    ⟨S128x128, addf (extractStridedSlice S128x128 ![0, 128] b slices_S128x512_o0_128_S128x128) msk⟩,
    ⟨S128x128, addf (extractStridedSlice S128x128 ![0, 256] b slices_S128x512_o0_256_S128x128) msk⟩,
    ⟨S128x128, addf (extractStridedSlice S128x128 ![0, 384] b slices_S128x512_o0_384_S128x128) msk⟩]
    concatenates_S128x128_S128x128_S128x128_S128x128_S128x512_d1

/-- The mask of a block that may lie past the end of the sequence. -/
def edged (b : FVec F S128x512 .f32) : Option (F .f32) → FVec F S128x512 .f32
  | none => b
  | some e => addf b (broadcast S128x512 e)

/-- Context scores. -/
def blkX (st : FVec F S640x512 .f32) : FVec F S256x512 .f32 :=
  extractStridedSlice S256x512 ![0, 0] st slices_S640x512_o0_0_S256x512
/-- Scores of the key block before. -/
def blkB (st : FVec F S640x512 .f32) (e : Option (F .f32)) : FVec F S128x512 .f32 :=
  edged (masked (extractStridedSlice S128x512 ![256, 0] st slices_S640x512_o256_0_S128x512) (k0_pay2 (F := F))) e
/-- Scores of the queries' own key block. -/
def blkC (st : FVec F S640x512 .f32) : FVec F S128x512 .f32 :=
  extractStridedSlice S128x512 ![384, 0] st slices_S640x512_o384_0_S128x512
/-- Scores of the key block after. -/
def blkA (st : FVec F S640x512 .f32) (e : Option (F .f32)) : FVec F S128x512 .f32 :=
  edged (masked (extractStridedSlice S128x512 ![512, 0] st slices_S640x512_o512_0_S128x512) (k0_pay3 (F := F))) e

/-- The maximum over every eighth row of a block of 128. -/
def max8 (b : FVec F S128x512 .f32) : FVec F S8x512 .f32 :=
  multiReduction .maximumf [0] S8x512 (shapeCast S16x8x512 b shapeCasts_S128x512_S16x8x512) 0xFF800000#32
    reduces_S16x8x512_S8x512 (.inl rfl) rfl

/-- The maximum over every eighth row of all scores. -/
def rowMax8 (bx : FVec F S256x512 .f32) (bb bc ba : FVec F S128x512 .f32) : FVec F S8x512 .f32 :=
  maximumf (maximumf (maximumf
    (multiReduction .maximumf [0] S8x512 (shapeCast S32x8x512 bx shapeCasts_S256x512_S32x8x512) 0xFF800000#32
      reduces_S32x8x512_S8x512 (.inl rfl) rfl) (max8 bb)) (max8 bc)) (max8 ba)

/-- The sink's scores, in the units of the exponential base two. -/
def sink2 (s : Vec F S1x1x512 .f32) : FVec F S1x512 .f32 :=
  mulf (shapeCast S1x512 s shapeCasts_S1x1x512_S1x512) (broadcast S1x512 (Named.named κ "log2e" 0x3FB8AA3B#32))

/-- The maximum of the scores and the sink. -/
def colMax (m8 : FVec F S8x512 .f32) (s : Vec F S1x1x512 .f32) : FVec F S1x512 .f32 :=
  maximumf (shapeCast S1x512 (multiReduction .maximumf [0] S512 m8 0xFF800000#32 reduces_S8x512_S512 (.inl rfl) rfl)
    shapeCasts_S512_S1x512) (sink2 s)

/-- A piece of 64 rows exponentiated. -/
def expo (x : FVec F S64x512 .f32) (mx : FVec F S1x512 .f32) : FVec F S64x512 .bf16 :=
  truncf .bf16 (exp2 (subf x (broadcastTo S64x512 mx broadcasts_S1x512_S64x512))) bitsLt_bf16_f32

/-- The weights before their division. -/
def probs (bx : FVec F S256x512 .f32) (bb bc ba : FVec F S128x512 .f32) (mx : FVec F S1x512 .f32) :
    FVec F S640x512 .bf16 :=
  concatenate S640x512 0 [
    ⟨S64x512, expo (extractStridedSlice S64x512 ![0, 0] bx slices_S256x512_o0_0_S64x512) mx⟩,
    ⟨S64x512, expo (extractStridedSlice S64x512 ![64, 0] bx slices_S256x512_o64_0_S64x512) mx⟩,
    ⟨S64x512, expo (extractStridedSlice S64x512 ![128, 0] bx slices_S256x512_o128_0_S64x512) mx⟩,
    ⟨S64x512, expo (extractStridedSlice S64x512 ![192, 0] bx slices_S256x512_o192_0_S64x512) mx⟩,
    ⟨S64x512, expo (extractStridedSlice S64x512 ![0, 0] bb slices_S128x512_o0_0_S64x512) mx⟩,
    ⟨S64x512, expo (extractStridedSlice S64x512 ![64, 0] bb slices_S128x512_o64_0_S64x512) mx⟩,
    ⟨S64x512, expo (extractStridedSlice S64x512 ![0, 0] bc slices_S128x512_o0_0_S64x512) mx⟩,
    ⟨S64x512, expo (extractStridedSlice S64x512 ![64, 0] bc slices_S128x512_o64_0_S64x512) mx⟩,
    ⟨S64x512, expo (extractStridedSlice S64x512 ![0, 0] ba slices_S128x512_o0_0_S64x512) mx⟩,
    ⟨S64x512, expo (extractStridedSlice S64x512 ![64, 0] ba slices_S128x512_o64_0_S64x512) mx⟩]
    concatenates_S64x512_S64x512_S64x512_S64x512_S64x512_S64x512_S64x512_S64x512_S64x512_S64x512_S640x512_d0

/-- The sink's weight before the division. -/
def sinkTerm (s : Vec F S1x1x512 .f32) (mx : FVec F S1x512 .f32) : FVec F S1x512 .f32 :=
  exp2 (subf (sink2 s) mx)

/-- The values of a pair of heads, feature rows down, keys across. -/
def vpair (vx : Vec F S1x128x256 .bf16) (v0 v1 v2 : Vec F S1x128x128 .bf16) : FVec F S128x640 .bf16 :=
  concatenate S128x640 1 [⟨S128x256, shapeCast S128x256 vx shapeCasts_S1x128x256_S128x256⟩,
    ⟨S128x128, shapeCast S128x128 v0 shapeCasts_S1x128x128_S128x128⟩,
    ⟨S128x128, shapeCast S128x128 v1 shapeCasts_S1x128x128_S128x128⟩,
    ⟨S128x128, shapeCast S128x128 v2 shapeCasts_S1x128x128_S128x128⟩]
    concatenates_S128x256_S128x128_S128x128_S128x128_S128x640_d1

/-- The weighted values and, in the other head's rows, the sum of the weights. -/
def sums (p : CmpIPredicate) (v : FVec F S128x640 .bf16) (pt : FVec F S640x512 .bf16) : FVec F S128x512 .f32 :=
  matmul dot_S128x640_S640x512_S128x512_1_0_0_1_n_n none
    (select (cmpi p (iota .tc S128x640 32 [0] iota_S128x640_d0_w32) (broadcast S128x640 64#32)) v
      (broadcast S128x640 (Scalar.ofBits .bf16 0x3F80#16)))
    pt (constant S128x512 .f32 0x00000000#32)

/-- The quotient, for the first or the second head of a pair. -/
def quot (par : Bool) (v : FVec F S128x640 .bf16) (pt : FVec F S640x512 .bf16) (s : FVec F S1x512 .f32) :
    FVec F S64x512 .f32 :=
  match par with
  | false => divf (extractStridedSlice S64x512 ![0, 0] (sums .slt v pt) slices_S128x512_o0_0_S64x512)
      (addf (extractStridedSlice S64x512 ![64, 0] (sums .slt v pt) slices_S128x512_o64_0_S64x512)
        (broadcastTo S64x512 s broadcasts_S1x512_S64x512))
  | true => divf (extractStridedSlice S64x512 ![64, 0] (sums .sge v pt) slices_S128x512_o64_0_S64x512)
      (addf (extractStridedSlice S64x512 ![0, 0] (sums .sge v pt) slices_S128x512_o0_0_S64x512)
        (broadcastTo S64x512 s broadcasts_S1x512_S64x512))

/-- One chain: what head `h` gives the queries of block `j`. -/
def chainOut (x0 : Vec F S4x1x512 .f32) (x1 : Vec F S1x512x1024 .bf16) (x2 : Vec F S1x128x512 .bf16)
    (x3 : Vec F S1x512x512 .bf16) (x4 : Vec F S1x128x512 .bf16) (x5 : Vec F S1x256x128 .bf16)
    (x6 : Vec F S1x256x512 .bf16) (x7 : Vec F S1x256x128 .bf16) (x8 : Vec F S1x256x512 .bf16)
    (x9 : Vec F S1x256x256 .bf16) (j h : Fin 4) (par : Bool) (p : Fin 2) (eb ea : Option (F .f32)) : FVec F S64x512 .f32 :=
  let st := scores (ldKx x8 h) (ldK x2 x3 x4 h ⟨j.val, by omega⟩) (ldK x2 x3 x4 h ⟨j.val + 1, by omega⟩)
    (ldK x2 x3 x4 h ⟨j.val + 2, by omega⟩) (ldQ x1 j h 0) (ldQ x1 j h 1)
  let mx := colMax (rowMax8 (blkX st) (blkB st eb) (blkC st) (blkA st ea)) (ldSink x0 h)
  quot par (vpair (ldVx x9 p) (ldV x5 x6 x7 p ⟨j.val, by omega⟩) (ldV x5 x6 x7 p ⟨j.val + 1, by omega⟩)
      (ldV x5 x6 x7 p ⟨j.val + 2, by omega⟩))
    (probs (blkX st) (blkB st eb) (blkC st) (blkA st ea) mx) (sinkTerm (ldSink x0 h) mx)

/-! ## From the chains to the stored rows -/

/-- Heads 0 and 1 of a chain's four as the activations' lanes. -/
def colsL (o : FVec F S64x512 .f32) : FVec F S128x128 .f32 :=
  transpose S128x128 [1, 0] (concatenate S128x128 0 [
    ⟨S64x128, extractStridedSlice S64x128 ![0, 0] o slices_S64x512_o0_0_S64x128⟩,
    ⟨S64x128, extractStridedSlice S64x128 ![0, 128] o slices_S64x512_o0_128_S64x128⟩]
    concatenates_S64x128_S64x128_S128x128_d0) transposes_S128x128_p1_0_S128x128
/-- Heads 2 and 3 of a chain's four as the activations' lanes. -/
def colsR (o : FVec F S64x512 .f32) : FVec F S128x128 .f32 :=
  transpose S128x128 [1, 0] (concatenate S128x128 0 [
    ⟨S64x128, extractStridedSlice S64x128 ![0, 256] o slices_S64x512_o0_256_S64x128⟩,
    ⟨S64x128, extractStridedSlice S64x128 ![0, 384] o slices_S64x512_o0_384_S64x128⟩]
    concatenates_S64x128_S64x128_S128x128_d0) transposes_S128x128_p1_0_S128x128

/-- A block of 128 queries' attention output, from its four chains. -/
def rowBlk (o0 o1 o2 o3 : FVec F S64x512 .f32) : FVec F S128x1024 .f32 :=
  concatenate S128x1024 1 [⟨S128x128, colsL o0⟩, ⟨S128x128, colsR o0⟩, ⟨S128x128, colsL o1⟩, ⟨S128x128, colsR o1⟩,
    ⟨S128x128, colsL o2⟩, ⟨S128x128, colsR o2⟩, ⟨S128x128, colsL o3⟩, ⟨S128x128, colsR o3⟩]
    concatenates_S128x128_S128x128_S128x128_S128x128_S128x128_S128x128_S128x128_S128x128_S128x1024_d1

/-- The gated attention output of two blocks of queries. -/
def gated (ra rb : FVec F S128x1024 .f32) (sg : Vec F S1x256x1024 .bf16) : FVec F S256x1024 .bf16 :=
  truncf .bf16 (mulf (concatenate S256x1024 0 [⟨S128x1024, ra⟩, ⟨S128x1024, rb⟩]
      concatenates_S128x1024_S128x1024_S256x1024_d0)
    (extf .f32 (shapeCast S256x1024 sg shapeCasts_S1x256x1024_S256x1024) bitsLt_bf16_f32)) bitsLt_bf16_f32

/-- Its projection to one stretch of 256 columns. -/
def proj (o : FVec F S256x1024 .bf16) (w : Vec F S1024x256 .bf16) : FVec F S256x256 .f32 :=
  matmul dot_S256x1024_S1024x256_S256x256_1_0_0_1_n_n none o
    (shapeCast S1024x256 w shapeCasts_S1024x256_S1024x256) (constant S256x256 .f32 0x00000000#32)

/-- The residual stream after the layer. -/
def resid (o : FVec F S256x1024 .bf16) (w : Vec F S1024x1024 .bf16) (x : Vec F S1x256x1024 .f32)
    (g : FVec F S1x1024 .f32) : FVec F S256x1024 .f32 :=
  addf (shapeCast S256x1024 x shapeCasts_S1x256x1024_S256x1024)
    (mulf (broadcastTo S256x1024 g broadcasts_S1x1024_S256x1024)
      (concatenate S256x1024 1 [⟨S256x256, proj o (ldW w 0)⟩, ⟨S256x256, proj o (ldW w 1)⟩, ⟨S256x256, proj o (ldW w 2)⟩,
        ⟨S256x256, proj o (ldW w 3)⟩] concatenates_S256x256_S256x256_S256x256_S256x256_S256x1024_d1))

/-- The final norm, stored. -/
def normed (r : FVec F S256x1024 .f32) (fg : Vec F S1x1024 .f32) : FVec F S1x256x1024 .f32 :=
  shapeCast S1x256x1024 (mulf (mulf r (broadcastTo S256x1024 (rsqrt (addf
    (divf (shapeCast S256x1 (multiReduction .add [1] S256 (mulf r r) 0x00000000#32 reduces_S256x1024_S256 (.inl rfl) rfl)
        shapeCasts_S256_S256x1) (broadcast S256x1 (Scalar.ofBits .f32 0x44800000#32)))
      (broadcast S256x1 (Scalar.ofBits .f32 0x358637BD#32)))) broadcasts_S256x1_S256x1024))
    (broadcastTo S256x1024 (shapeCast S1x1024 fg shapeCasts_S1x1024_S1x1024) broadcasts_S1x1024_S256x1024))
    shapeCasts_S256x1024_S1x256x1024

/-- Whether a key-value head is the second of its pair. -/
def parOf (h : Fin 4) : Bool := match h with | 0 => false | 1 => true | 2 => false | 3 => true
/-- The pair of a key-value head. -/
def pairOf (h : Fin 4) : Fin 2 := match h with | 0 => 0 | 1 => 0 | 2 => 1 | 3 => 1
/-- The mask of the block before: only the first of the four blocks needs one. -/
def beforeOf (i : grid0.Coords) (j : Fin 4) : Option (F .f32) :=
  match j with | 0 => some (k0_pay4 (F := F) i) | 1 => none | 2 => none | 3 => none
/-- The mask of the block after: only the last of the four blocks needs one. -/
def afterOf (i : grid0.Coords) (j : Fin 4) : Option (F .f32) :=
  match j with | 3 => some (k0_pay5 (F := F) i) | 0 => none | 1 => none | 2 => none

/-- One chain with the masks of its place: the first block of the four may have no block before it, the last none after. -/
def chainAt (i : grid0.Coords) (x0 : Vec F S4x1x512 .f32) (x1 : Vec F S1x512x1024 .bf16) (x2 : Vec F S1x128x512 .bf16)
    (x3 : Vec F S1x512x512 .bf16) (x4 : Vec F S1x128x512 .bf16) (x5 : Vec F S1x256x128 .bf16)
    (x6 : Vec F S1x256x512 .bf16) (x7 : Vec F S1x256x128 .bf16) (x8 : Vec F S1x256x512 .bf16)
    (x9 : Vec F S1x256x256 .bf16) (j h : Fin 4) : FVec F S64x512 .f32 :=
  chainOut x0 x1 x2 x3 x4 x5 x6 x7 x8 x9 j h
    (parOf h) (pairOf h) (beforeOf i j) (afterOf i j)

/-- A block of 128 queries' attention output. -/
def rowAt (i : grid0.Coords) (x0 : Vec F S4x1x512 .f32) (x1 : Vec F S1x512x1024 .bf16) (x2 : Vec F S1x128x512 .bf16)
    (x3 : Vec F S1x512x512 .bf16) (x4 : Vec F S1x128x512 .bf16) (x5 : Vec F S1x256x128 .bf16)
    (x6 : Vec F S1x256x512 .bf16) (x7 : Vec F S1x256x128 .bf16) (x8 : Vec F S1x256x512 .bf16)
    (x9 : Vec F S1x256x256 .bf16) (j : Fin 4) : FVec F S128x1024 .f32 :=
  rowBlk (chainAt i x0 x1 x2 x3 x4 x5 x6 x7 x8 x9 j 0) (chainAt i x0 x1 x2 x3 x4 x5 x6 x7 x8 x9 j 1)
    (chainAt i x0 x1 x2 x3 x4 x5 x6 x7 x8 x9 j 2) (chainAt i x0 x1 x2 x3 x4 x5 x6 x7 x8 x9 j 3)

/-- The gated output of the half `r` of the block's rows. -/
def gatedAt (i : grid0.Coords) (x0 : Vec F S4x1x512 .f32) (x1 : Vec F S1x512x1024 .bf16) (x2 : Vec F S1x128x512 .bf16)
    (x3 : Vec F S1x512x512 .bf16) (x4 : Vec F S1x128x512 .bf16) (x5 : Vec F S1x256x128 .bf16)
    (x6 : Vec F S1x256x512 .bf16) (x7 : Vec F S1x256x128 .bf16) (x8 : Vec F S1x256x512 .bf16)
    (x9 : Vec F S1x256x256 .bf16) (x10 : Vec F S1x512x1024 .bf16) (r : Fin 2) : FVec F S256x1024 .bf16 :=
  gated (rowAt i x0 x1 x2 x3 x4 x5 x6 x7 x8 x9 ⟨2 * r.val, by omega⟩)
    (rowAt i x0 x1 x2 x3 x4 x5 x6 x7 x8 x9 ⟨2 * r.val + 1, by omega⟩) (ldRows x10 r)

/-- What the half `r` of the rows is stored as. -/
def halfAt (i : grid0.Coords) (x0 : Vec F S4x1x512 .f32) (x1 : Vec F S1x512x1024 .bf16) (x2 : Vec F S1x128x512 .bf16)
    (x3 : Vec F S1x512x512 .bf16) (x4 : Vec F S1x128x512 .bf16) (x5 : Vec F S1x256x128 .bf16)
    (x6 : Vec F S1x256x512 .bf16) (x7 : Vec F S1x256x128 .bf16) (x8 : Vec F S1x256x512 .bf16)
    (x9 : Vec F S1x256x256 .bf16) (x10 : Vec F S1x512x1024 .bf16) (x11 : Vec F S1x512x1024 .f32)
    (x12 : Vec F S1x1x3072 .f32) (x13 : Vec F S1024x1024 .bf16) (x14 : Vec F S1x1024 .f32) (r : Fin 2) :
    FVec F S1x256x1024 .f32 :=
  normed (resid (gatedAt i x0 x1 x2 x3 x4 x5 x6 x7 x8 x9 x10 r) x13 (ldRows x11 r) (k0_pay8 (View.ld x12 r0_0)))
    (View.ld x14 r0_78)

end Cert.Attn

end
-- ==== Proof.Softmax.lean ====
/- The mathematics of the claim, with no program in sight: a softmax does not depend on the number subtracted from its
   exponents, nor on the base of the exponential once the exponents are rescaled, nor on whether the division by the sum of
   the weights happens before or after the weighted sum of the values. The values are any extended reals. -/
module

public import Idealize.ShloMosaic.Lib.Pointwise

@[expose] public section

noncomputable section

namespace Cert.Attn

open Idealize.ShloMosaic

/-- A finite sum of reals, read in the extended reals. -/
theorem coe_sum {ι : Type*} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- The weight of a key in base e: the exponential of its score, zero where the key is masked. -/
def weight (ok : Prop) [Decidable ok] (s : ℝ) : ℝ := if ok then Real.exp s else 0

theorem weight_nonneg (ok : Prop) [Decidable ok] (s : ℝ) : 0 ≤ weight ok s := by
  unfold weight; split_ifs
  · exact (Real.exp_pos s).le
  · exact le_rfl

/-- A score as the reference holds it: −∞ where the key is masked. -/
def scoreE (ok : Prop) [Decidable ok] (s : ℝ) : EReal := if ok then (s : EReal) else ⊥

/-- A score as the kernel holds it: in the units of the exponential of base two, −∞ where the key is masked. -/
def score2 (ok : Prop) [Decidable ok] (s : ℝ) : EReal := if ok then ((s * (Real.log 2)⁻¹ : ℝ) : EReal) else ⊥

theorem log2_pos : 0 < Real.log 2 := Real.log_pos (by norm_num)

theorem exp_scoreE (ok : Prop) [Decidable ok] (s m : ℝ) :
    Ideal.exp (scoreE ok s - (m : EReal)) = ((Real.exp (-m) * weight ok s : ℝ) : EReal) := by
  unfold scoreE weight
  split_ifs
  · rw [← EReal.coe_sub, Ideal.exp_coe, sub_eq_neg_add, Real.exp_add]
  · rw [EReal.bot_sub, Ideal.exp_bot, mul_zero, EReal.coe_zero]

theorem exp2_score2 (ok : Prop) [Decidable ok] (s m : ℝ) :
    Ideal.exp2 (score2 ok s - (m : EReal)) = (((2 : ℝ) ^ (-m) * weight ok s : ℝ) : EReal) := by
  unfold score2 weight
  split_ifs
  · rw [← EReal.coe_sub, Ideal.exp2_coe, sub_eq_neg_add]
    show (((2 : ℝ) ^ (-m + s * (Real.log 2)⁻¹) : ℝ) : EReal) = _
    rw [Real.rpow_add (by norm_num)]
    congr 2
    rw [Real.rpow_def_of_pos (by norm_num)]
    congr 1
    field_simp [log2_pos.ne']
  · rw [EReal.bot_sub, Ideal.exp2_bot, mul_zero, EReal.coe_zero]

/-- A positive real factor passes through a finite sum of extended reals. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

variable {ι : Type*} [Fintype ι]

/-- The sum of all weights, the sink's with them. -/
def total (ok : ι → Prop) [DecidablePred ok] (s : ι → ℝ) (snk : ℝ) : ℝ := ∑ i, weight (ok i) (s i) + Real.exp snk

theorem total_pos (ok : ι → Prop) [DecidablePred ok] (s : ι → ℝ) (snk : ℝ) : 0 < total ok s snk :=
  add_pos_of_nonneg_of_pos (Finset.sum_nonneg fun i _ => weight_nonneg _ _) (Real.exp_pos _)

/-- The softmax's weighted sum of the values, as a sum over the keys of value times normalised weight. -/
def mix (ok : ι → Prop) [DecidablePred ok] (s : ι → ℝ) (snk : ℝ) (v : ι → EReal) : EReal :=
  ∑ i, v i * ((weight (ok i) (s i) / total ok s snk : ℝ) : EReal)

/-- The kernel's quotient: weights in base two, any real number subtracted from the exponents, divided last. -/
theorem kernel_mix (ok : ι → Prop) [DecidablePred ok] (s : ι → ℝ) (snk m : ℝ) (v : ι → EReal) :
    Ideal.div (∑ i, v i * Ideal.exp2 (score2 (ok i) (s i) - (m : EReal)))
      (∑ i, Ideal.exp2 (score2 (ok i) (s i) - (m : EReal)) + Ideal.exp2 (score2 True snk - (m : EReal))) =
    mix ok s snk v := by
  have hp : (0 : ℝ) < 2 ^ (-m) := Real.rpow_pos_of_pos (by norm_num) _
  have hd : (∑ i, Ideal.exp2 (score2 (ok i) (s i) - (m : EReal)) + Ideal.exp2 (score2 True snk - (m : EReal))) =
      (((2 : ℝ) ^ (-m) * total ok s snk : ℝ) : EReal) := by
    simp only [exp2_score2]
    rw [← coe_sum, ← EReal.coe_add, ← Finset.mul_sum, ← mul_add]
    simp [total, weight]
  have ht := total_pos ok s snk
  rw [hd, Ideal.div_coe (mul_pos hp ht).ne', sum_mul_coe _ _ _ (by positivity), mix]
  refine Finset.sum_congr rfl fun i _ => ?_
  rw [exp2_score2, mul_assoc, ← EReal.coe_mul]
  congr 2
  field_simp

/-- The reference's weights: base e, the sink with the keys, any real number subtracted, divided first. -/
theorem reference_weight (ok : ι → Prop) [DecidablePred ok] (s : ι → ℝ) (snk m : ℝ) (i : ι) :
    Ideal.div (Ideal.exp (scoreE (ok i) (s i) - (m : EReal)))
      (Ideal.exp ((snk : EReal) - (m : EReal)) + ∑ k, Ideal.exp (scoreE (ok k) (s k) - (m : EReal))) =
    ((weight (ok i) (s i) / total ok s snk : ℝ) : EReal) := by
  have hs : (snk : EReal) = scoreE True snk := by simp [scoreE]
  have hp : (0 : ℝ) < Real.exp (-m) := Real.exp_pos _
  have hd : (Ideal.exp ((snk : EReal) - (m : EReal)) + ∑ k, Ideal.exp (scoreE (ok k) (s k) - (m : EReal))) =
      ((Real.exp (-m) * total ok s snk : ℝ) : EReal) := by
    rw [hs]
    simp only [exp_scoreE]
    rw [← coe_sum, ← EReal.coe_add, ← Finset.mul_sum, ← mul_add]
    simp [total, weight, add_comm]
  have ht := total_pos ok s snk
  rw [hd, Ideal.div_coe (mul_pos hp ht).ne', exp_scoreE, ← EReal.coe_mul]
  congr 1
  field_simp

/-- A maximum of finitely many extended reals below `⊤`, one of them a real number, is a real number. -/
theorem exists_real {x : EReal} {a : ℝ} (h : (a : EReal) ≤ x) (h' : x < ⊤) : ∃ m : ℝ, x = m := by
  induction x with
  | bot => exact absurd (le_bot_iff.mp h) (EReal.coe_ne_bot a)
  | top => exact absurd h' (lt_irrefl _)
  | coe m => exact ⟨m, rfl⟩

theorem score2_lt_top (ok : Prop) [Decidable ok] (s : ℝ) : score2 ok s < ⊤ := by
  unfold score2; split_ifs
  · exact EReal.coe_lt_top _
  · exact bot_lt_top
theorem scoreE_lt_top (ok : Prop) [Decidable ok] (s : ℝ) : scoreE ok s < ⊤ := by
  unfold scoreE; split_ifs
  · exact EReal.coe_lt_top _
  · exact bot_lt_top

end Cert.Attn

end
-- ==== Proof.Chain.lean ====
/- One chain of the kernel at an index: what a key-value head gives a query of a block of 128, as the softmax's weighted sum
   of the values over the 256 context keys and the three neighbouring blocks of 128 keys. -/
module

public import proofs.«01_k».proof.Proof.Model
public import proofs.«01_k».proof.Proof.Softmax

@[expose] public section

set_option maxRecDepth 16384

noncomputable section

namespace Cert.Attn

open Idealize.ShloMosaic Idealize.SL.Sem Cert.KernelIdeal Cert.KernelIdeal.Gen

/-- Column `g·128 + t` of the 512: query `t` of head `g`. -/
def colOf (g : Fin 4) (t : Fin 128) : Fin 512 := ⟨g.val * 128 + t.val, by omega⟩

/-- The lane selector of the kernel's two half-masked copies of a query block. -/
theorem sel_lane {α : Type} (x : Fin 128) (a b : α) :
    Scalar.select (IntOp.cmpi CmpIPredicate.slt (BitVec.ofNat 32 x.val) 64#32) a b = if x.val < 64 then a else b := by
  have h : ∀ x : Fin 128, IntOp.cmpi CmpIPredicate.slt (BitVec.ofNat 32 x.val) 64#32 = if x.val < 64 then 1#1 else 0#1 := by
    decide
  rw [h]; split_ifs <;> rfl

/-- The sum over the 128 lanes of a key against a query whose other 64 lanes are zeroed. -/
theorem sum_lanes (k q : Fin 64 → ℝ) (p : ℕ) (hp : p < 2) :
    (∑ x : Fin 128, (k ⟨x.val % 64, Nat.mod_lt _ (by norm_num)⟩ : EReal) *
      (if x.val / 64 = p then (q ⟨x.val % 64, Nat.mod_lt _ (by norm_num)⟩ : EReal) else 0)) =
    ((∑ d, k d * q d : ℝ) : EReal) := by
  rw [coe_sum, show (128 : ℕ) = 64 + 64 from rfl, Fin.sum_univ_add]
  have h1 : ∀ i : Fin 64, i.val / 64 = 0 := fun i => by omega
  have h2 : ∀ i : Fin 64, (64 + i.val) / 64 = 1 := fun i => by omega
  have h3 : ∀ i : Fin 64, (⟨i.val % 64, Nat.mod_lt _ (by norm_num)⟩ : Fin 64) = i := fun i => Fin.ext (Nat.mod_eq_of_lt i.isLt)
  have h4 : ∀ i : Fin 64, (⟨(64 + i.val) % 64, Nat.mod_lt _ (by norm_num)⟩ : Fin 64) = i := fun i => Fin.ext (by simp)
  simp only [Fin.val_castAdd, Fin.val_natAdd, h1, h2, h3, h4]
  interval_cases p <;> simp [EReal.coe_mul]

theorem scores_apply (kx : Vec Ideal S1x256x128 .bf16) (k0 k1 k2 q0 q1 : Vec Ideal S1x128x128 .bf16)
    (K : Fin 640 → Fin 64 → ℝ) (Q : Fin 4 → Fin 128 → Fin 64 → ℝ)
    (hx : ∀ (r : Fin 256) (l : Fin 128), kx (ix3 0 r l) = (K ⟨r.val, by omega⟩ ⟨l.val % 64, Nat.mod_lt _ (by norm_num)⟩ : EReal))
    (h0 : ∀ (r l : Fin 128), k0 (ix3 0 r l) = (K ⟨256 + r.val, by omega⟩ ⟨l.val % 64, Nat.mod_lt _ (by norm_num)⟩ : EReal))
    (h1 : ∀ (r l : Fin 128), k1 (ix3 0 r l) = (K ⟨384 + r.val, by omega⟩ ⟨l.val % 64, Nat.mod_lt _ (by norm_num)⟩ : EReal))
    (h2 : ∀ (r l : Fin 128), k2 (ix3 0 r l) = (K ⟨512 + r.val, by omega⟩ ⟨l.val % 64, Nat.mod_lt _ (by norm_num)⟩ : EReal))
    (hq0 : ∀ (t l : Fin 128), q0 (ix3 0 t l) = (Q ⟨l.val / 64, by omega⟩ t ⟨l.val % 64, Nat.mod_lt _ (by norm_num)⟩ : EReal))
    (hq1 : ∀ (t l : Fin 128), q1 (ix3 0 t l) = (Q ⟨2 + l.val / 64, by omega⟩ t ⟨l.val % 64, Nat.mod_lt _ (by norm_num)⟩ : EReal))
    (r : Fin 640) (g : Fin 4) (t : Fin 128) :
    scores kx k0 k1 k2 q0 q1 (ix2 r (colOf g t)) = ((∑ d, K r d * Q g t d : ℝ) : EReal) := by
  rw [← sum_lanes (K r) (Q g t) (g.val % 2) (Nat.mod_lt _ (by norm_num))]
  pointwise [scores, k0_pay6, k0_pay7]
  refine Finset.sum_congr rfl fun x _ => congrArg₂ (· * ·) ?_ ?_
  · simp only [hx, h0, h1, h2]
    split_ifs <;> exact congrArg (fun i => ((K i _ : ℝ) : EReal)) (Fin.ext (by first | omega | rfl | (dsimp only <;> omega)))
  · simp only [sel_lane, hq0, hq1]
    have hc : (colOf g t).val = g.val * 128 + t.val := rfl
    by_cases hp : x.val / 64 = g.val % 2
    · rw [if_pos hp]
      split_ifs <;> first
        | (exfalso; omega)
        | exact congrArg₂ (fun i j => ((Q i j _ : ℝ) : EReal)) (Fin.ext (by first | omega | (dsimp only <;> omega)))
            (Fin.ext (by first | omega | (dsimp only <;> omega)))
    · rw [if_neg hp]
      split_ifs <;> first
        | (exfalso; omega)
        | rfl

theorem mask_before (r t : Fin 128) :
    k0_pay2 (F := Ideal) (ix2 r t) = if t.val ≤ r.val then 0 else ⊥ := by
  pointwise [k0_pay2]
  have h : IntOp.cmpi CmpIPredicate.sge (BitVec.ofNat 32 r.val) (BitVec.ofNat 32 t.val) = if t.val ≤ r.val then 1#1 else 0#1 := by
    revert r t; decide +kernel
  rw [h]; split_ifs <;> rfl

theorem mask_after (r t : Fin 128) :
    k0_pay3 (F := Ideal) (ix2 r t) = if r.val ≤ t.val then 0 else ⊥ := by
  pointwise [k0_pay3]
  have h : IntOp.cmpi CmpIPredicate.sle (BitVec.ofNat 32 r.val) (BitVec.ofNat 32 t.val) = if r.val ≤ t.val then 1#1 else 0#1 := by
    revert r t; decide +kernel
  rw [h]; split_ifs <;> rfl

theorem masked_apply (b : FVec Ideal S128x512 .f32) (msk : FVec Ideal S128x128 .f32) (r : Fin 128) (g : Fin 4) (t : Fin 128) :
    masked b msk (ix2 r (colOf g t)) = b (ix2 r (colOf g t)) + msk (ix2 r t) := by
  pointwise [masked]
  have hc : (colOf g t).val = g.val * 128 + t.val := rfl
  split_ifs <;> exact congrArg₂ (fun i j => (b (ix2 r i) + msk (ix2 r j) : EReal)) (Fin.ext (by first | omega | rfl | (dsimp only <;> omega)))
    (Fin.ext (by first | omega | rfl | (dsimp only <;> omega)))

/-- The score an added mask leaves. -/
theorem add_mask (p : Prop) [Decidable p] (x : EReal) : x + (if p then (0 : EReal) else ⊥) = if p then x else ⊥ := by
  split_ifs <;> simp

theorem blkX_apply (st : FVec Ideal S640x512 .f32) (r : Fin 256) (c : Fin 512) :
    blkX st (ix2 r c) = st (ix2 ⟨r.val, by omega⟩ c) := by
  pointwise [blkX]
theorem blkC_apply (st : FVec Ideal S640x512 .f32) (r : Fin 128) (c : Fin 512) :
    blkC st (ix2 r c) = st (ix2 ⟨384 + r.val, by omega⟩ c) := by
  pointwise [blkC]
theorem sliceB_apply (st : FVec Ideal S640x512 .f32) (r : Fin 128) (c : Fin 512) :
    extractStridedSlice S128x512 ![256, 0] st slices_S640x512_o256_0_S128x512 (ix2 r c) = st (ix2 ⟨256 + r.val, by omega⟩ c) := by
  pointwise []
theorem sliceA_apply (st : FVec Ideal S640x512 .f32) (r : Fin 128) (c : Fin 512) :
    extractStridedSlice S128x512 ![512, 0] st slices_S640x512_o512_0_S128x512 (ix2 r c) = st (ix2 ⟨512 + r.val, by omega⟩ c) := by
  pointwise []

/-- An edge mask `e` is what it should be: nothing added where the block is there, −∞ where it is not. -/
def EdgeOk (e : Option EReal) (p : Prop) : Prop := (e = none ∧ p) ∨ (e = some 0 ∧ p) ∨ (e = some ⊥ ∧ ¬p)

theorem edged_apply (b : FVec Ideal S128x512 .f32) (e : Option EReal) (p : Prop) [Decidable p] (h : EdgeOk e p)
    (r : Fin 128) (c : Fin 512) : edged (F := Ideal) b e (ix2 r c) = if p then b (ix2 r c) else ⊥ := by
  rcases h with ⟨rfl, hp⟩ | ⟨rfl, hp⟩ | ⟨rfl, hp⟩
  · rw [if_pos hp]; rfl
  · rw [if_pos hp]; show b (ix2 r c) + (0 : EReal) = _; rw [add_zero]
  · rw [if_neg hp]; show b (ix2 r c) + (⊥ : EReal) = _; rw [EReal.add_bot]

theorem blkB_apply (st : FVec Ideal S640x512 .f32) (e : Option EReal) (p : Prop) [Decidable p] (h : EdgeOk e p)
    (r : Fin 128) (g : Fin 4) (t : Fin 128) :
    blkB (F := Ideal) st e (ix2 r (colOf g t)) = if p ∧ t.val ≤ r.val then st (ix2 ⟨256 + r.val, by omega⟩ (colOf g t)) else ⊥ := by
  rw [blkB, edged_apply _ _ p h, masked_apply, mask_before, add_mask, sliceB_apply, ite_and]

theorem blkA_apply (st : FVec Ideal S640x512 .f32) (e : Option EReal) (p : Prop) [Decidable p] (h : EdgeOk e p)
    (r : Fin 128) (g : Fin 4) (t : Fin 128) :
    blkA (F := Ideal) st e (ix2 r (colOf g t)) = if p ∧ r.val ≤ t.val then st (ix2 ⟨512 + r.val, by omega⟩ (colOf g t)) else ⊥ := by
  rw [blkA, edged_apply _ _ p h, masked_apply, mask_after, add_mask, sliceA_apply, ite_and]

theorem log2e_eq : (Named.named (F := Ideal) κ "log2e" (0x3FB8AA3B#32) : Ideal .f32) = (((Real.log 2)⁻¹ : ℝ) : EReal) := rfl

theorem sink2_apply (s : Vec Ideal S1x1x512 .f32) (c : Fin 512) :
    sink2 s (ix2 0 c) = s (ix3 0 0 c) * (((Real.log 2)⁻¹ : ℝ) : EReal) := by
  pointwise [sink2]; rw [log2e_eq]

theorem ofBits_neg_inf : Ideal.ofBits FTy.f32 4286578688#32 = ⊥ := by decide

theorem max8_lt (b : FVec Ideal S128x512 .f32) (c : Fin 512) (h : ∀ r, b (ix2 r c) < ⊤) (r : Fin 8) :
    max8 b (ix2 r c) < ⊤ := by
  pointwise [max8]
  refine (Finset.fold_max_lt _).mpr ⟨?_, fun x _ => h _⟩
  rw [ofBits_neg_inf]; exact bot_lt_top

theorem rowMax8_lt (bx : FVec Ideal S256x512 .f32) (bb bc ba : FVec Ideal S128x512 .f32) (c : Fin 512)
    (hx : ∀ r, bx (ix2 r c) < ⊤) (hb : ∀ r, bb (ix2 r c) < ⊤) (hc : ∀ r, bc (ix2 r c) < ⊤) (ha : ∀ r, ba (ix2 r c) < ⊤)
    (r : Fin 8) : rowMax8 bx bb bc ba (ix2 r c) < ⊤ := by
  pointwise [rowMax8]
  refine max_lt (max_lt (max_lt ?_ (max8_lt bb c hb r)) (max8_lt bc c hc r)) (max8_lt ba c ha r)
  refine (Finset.fold_max_lt _).mpr ⟨?_, fun x _ => hx _⟩
  rw [ofBits_neg_inf]; exact bot_lt_top

theorem colMax_real (m8 : FVec Ideal S8x512 .f32) (s : Vec Ideal S1x1x512 .f32) (c : Fin 512) (a : ℝ)
    (hs : s (ix3 0 0 c) = (a : EReal)) (h : ∀ r, m8 (ix2 r c) < ⊤) : ∃ m : ℝ, colMax m8 s (ix2 0 c) = (m : EReal) := by
  have hv : colMax m8 s (ix2 0 c) = max (Finset.univ.fold max ⊥ fun x => m8 (ix2 x c)) (sink2 s (ix2 0 c)) := by
    pointwise [colMax]
    rw [ofBits_neg_inf]
  rw [sink2_apply, hs, ← EReal.coe_mul] at hv
  refine exists_real (a := a * (Real.log 2)⁻¹) ?_ ?_
  · rw [hv]; exact le_max_right _ _
  · rw [hv]
    exact max_lt ((Finset.fold_max_lt _).mpr ⟨bot_lt_top, fun x _ => h x⟩) (EReal.coe_lt_top _)

theorem expo_apply (x : FVec Ideal S64x512 .f32) (mx : FVec Ideal S1x512 .f32) (r : Fin 64) (c : Fin 512) :
    expo x mx (ix2 r c) = Ideal.exp2 (x (ix2 r c) - mx (ix2 0 c)) := by
  pointwise [expo]
  rfl

set_option maxHeartbeats 2000000 in
theorem probs_apply (bx : FVec Ideal S256x512 .f32) (bb bc ba : FVec Ideal S128x512 .f32) (mx : FVec Ideal S1x512 .f32)
    (f : Fin 640 → EReal) (c : Fin 512)
    (hx : ∀ r : Fin 256, bx (ix2 r c) = f ⟨r.val, by omega⟩) (hb : ∀ r : Fin 128, bb (ix2 r c) = f ⟨256 + r.val, by omega⟩)
    (hc : ∀ r : Fin 128, bc (ix2 r c) = f ⟨384 + r.val, by omega⟩) (ha : ∀ r : Fin 128, ba (ix2 r c) = f ⟨512 + r.val, by omega⟩)
    (r : Fin 640) : probs bx bb bc ba mx (ix2 r c) = Ideal.exp2 (f r - mx (ix2 0 c)) := by
  pointwise [probs]
  simp only [expo_apply]
  pointwise []
  simp only [hx, hb, hc, ha]
  split_ifs <;> (congr 3; try exact Fin.ext (by first | omega | rfl | (simp <;> omega)))

theorem sel_row (x : Fin 128) {α : Type} (a b : α) :
    Scalar.select (IntOp.cmpi CmpIPredicate.sge (BitVec.ofNat 32 x.val) 64#32) a b = if x.val < 64 then b else a := by
  have h : ∀ x : Fin 128, IntOp.cmpi CmpIPredicate.sge (BitVec.ofNat 32 x.val) 64#32 = if x.val < 64 then 0#1 else 1#1 := by
    decide
  rw [h]; split_ifs <;> rfl

/-- Row `d` of the first or of the second head of a pair. -/
def rowOf (par : Bool) (d : Fin 64) : Fin 128 := ⟨(if par then 64 else 0) + d.val, by split_ifs <;> omega⟩

theorem quot_apply (par : Bool) (v : FVec Ideal S128x640 .bf16) (pt : FVec Ideal S640x512 .bf16) (s : FVec Ideal S1x512 .f32)
    (d : Fin 64) (c : Fin 512) :
    quot par v pt s (ix2 d c) =
      Ideal.div (∑ x, v (ix2 (rowOf par d) x) * pt (ix2 x c)) (∑ x, pt (ix2 x c) + s (ix2 0 c)) := by
  have e1 := fun {α : Type} (a b : α) => sel_lane (α := α) ⟨d.val, by omega⟩ a b
  have e2 := fun {α : Type} (a b : α) => sel_lane (α := α) ⟨64 + d.val, by omega⟩ a b
  have e3 := fun {α : Type} (a b : α) => sel_row (α := α) ⟨d.val, by omega⟩ a b
  have e4 := fun {α : Type} (a b : α) => sel_row (α := α) ⟨64 + d.val, by omega⟩ a b
  simp only at e1 e2 e3 e4
  have f1 : d.val < 64 := d.isLt
  have f2 : ¬ (64 + d.val < 64) := by omega
  cases par
  · pointwise [quot, sums]
    simp only [e1, e2, if_pos f1, if_neg f2, one_mul]
    congr 3; funext x; congr 3; exact Fin.ext (by simp [rowOf])
  · pointwise [quot, sums]
    simp only [e3, e4, if_pos f1, if_neg f2, one_mul]
    congr 3

theorem vpair_apply (vx : Vec Ideal S1x128x256 .bf16) (v0 v1 v2 : Vec Ideal S1x128x128 .bf16) (d : Fin 128)
    (f : Fin 640 → EReal)
    (hx : ∀ r : Fin 256, vx (ix3 0 d r) = f ⟨r.val, by omega⟩) (h0 : ∀ r : Fin 128, v0 (ix3 0 d r) = f ⟨256 + r.val, by omega⟩)
    (h1 : ∀ r : Fin 128, v1 (ix3 0 d r) = f ⟨384 + r.val, by omega⟩) (h2 : ∀ r : Fin 128, v2 (ix3 0 d r) = f ⟨512 + r.val, by omega⟩)
    (r : Fin 640) : vpair vx v0 v1 v2 (ix2 d r) = f r := by
  pointwise [vpair]
  simp only [hx, h0, h1, h2]
  split_ifs <;> (congr 1; try exact Fin.ext (by simp; omega))

/-- A chain of its loads. -/
def chainOf (snk : Vec Ideal S1x1x512 .f32) (kx : Vec Ideal S1x256x128 .bf16) (k0 k1 k2 q0 q1 : Vec Ideal S1x128x128 .bf16)
    (vx : Vec Ideal S1x128x256 .bf16) (v0 v1 v2 : Vec Ideal S1x128x128 .bf16) (par : Bool) (eb ea : Option EReal) :
    FVec Ideal S64x512 .f32 :=
  let st := scores kx k0 k1 k2 q0 q1
  let mx := colMax (rowMax8 (blkX st) (blkB (F := Ideal) st eb) (blkC st) (blkA (F := Ideal) st ea)) snk
  quot par (vpair vx v0 v1 v2) (probs (blkX st) (blkB (F := Ideal) st eb) (blkC st) (blkA (F := Ideal) st ea) mx) (sinkTerm snk mx)

/-- The keys a query `t` of a block sees, of the 256 context keys, the block before, its own, the block after: all of the
    context and of its own block, of the block before those from `t` on, of the block after those up to `t`. -/
def seen (pb pa : Prop) (t : Fin 128) (r : Fin 640) : Prop :=
  (r.val < 256 ∨ (384 ≤ r.val ∧ r.val < 512)) ∨ (pb ∧ 256 ≤ r.val ∧ r.val < 384 ∧ t.val ≤ r.val - 256) ∨
    (pa ∧ 512 ≤ r.val ∧ r.val - 512 ≤ t.val)

instance (pb pa : Prop) [Decidable pb] [Decidable pa] (t : Fin 128) : DecidablePred (seen pb pa t) := fun r => by
  unfold seen; infer_instance

/-- What a chain computes at feature `d` of query `t` of head `g`. -/
theorem chainOf_apply (snk : Vec Ideal S1x1x512 .f32) (kx : Vec Ideal S1x256x128 .bf16)
    (k0 k1 k2 q0 q1 : Vec Ideal S1x128x128 .bf16) (vx : Vec Ideal S1x128x256 .bf16) (v0 v1 v2 : Vec Ideal S1x128x128 .bf16)
    (par : Bool) (eb ea : Option EReal) (pb pa : Prop) [Decidable pb] [Decidable pa] (hb : EdgeOk eb pb) (ha : EdgeOk ea pa)
    (K : Fin 640 → Fin 64 → ℝ) (Q : Fin 4 → Fin 128 → Fin 64 → ℝ) (SK : Fin 4 → ℝ) (V : Fin 640 → Fin 64 → EReal)
    (hx : ∀ (r : Fin 256) (l : Fin 128), kx (ix3 0 r l) = (K ⟨r.val, by omega⟩ ⟨l.val % 64, Nat.mod_lt _ (by norm_num)⟩ : EReal))
    (h0 : ∀ (r l : Fin 128), k0 (ix3 0 r l) = (K ⟨256 + r.val, by omega⟩ ⟨l.val % 64, Nat.mod_lt _ (by norm_num)⟩ : EReal))
    (h1 : ∀ (r l : Fin 128), k1 (ix3 0 r l) = (K ⟨384 + r.val, by omega⟩ ⟨l.val % 64, Nat.mod_lt _ (by norm_num)⟩ : EReal))
    (h2 : ∀ (r l : Fin 128), k2 (ix3 0 r l) = (K ⟨512 + r.val, by omega⟩ ⟨l.val % 64, Nat.mod_lt _ (by norm_num)⟩ : EReal))
    (hq0 : ∀ (t l : Fin 128), q0 (ix3 0 t l) = (Q ⟨l.val / 64, by omega⟩ t ⟨l.val % 64, Nat.mod_lt _ (by norm_num)⟩ : EReal))
    (hq1 : ∀ (t l : Fin 128), q1 (ix3 0 t l) = (Q ⟨2 + l.val / 64, by omega⟩ t ⟨l.val % 64, Nat.mod_lt _ (by norm_num)⟩ : EReal))
    (hs : ∀ (g : Fin 4) (t : Fin 128), snk (ix3 0 0 (colOf g t)) = (SK g : EReal))
    (hvx : ∀ (r : Fin 256) (d : Fin 64), vx (ix3 0 (rowOf par d) r) = V ⟨r.val, by omega⟩ d)
    (hv0 : ∀ (r : Fin 128) (d : Fin 64), v0 (ix3 0 (rowOf par d) r) = V ⟨256 + r.val, by omega⟩ d)
    (hv1 : ∀ (r : Fin 128) (d : Fin 64), v1 (ix3 0 (rowOf par d) r) = V ⟨384 + r.val, by omega⟩ d)
    (hv2 : ∀ (r : Fin 128) (d : Fin 64), v2 (ix3 0 (rowOf par d) r) = V ⟨512 + r.val, by omega⟩ d)
    (d : Fin 64) (g : Fin 4) (t : Fin 128) :
    chainOf snk kx k0 k1 k2 q0 q1 vx v0 v1 v2 par eb ea (ix2 d (colOf g t)) =
      mix (seen pb pa t) (fun r => (∑ e, K r e * Q g t e) * Real.log 2) (SK g) (fun r => V r d) := by
  have hst := scores_apply kx k0 k1 k2 q0 q1 K Q hx h0 h1 h2 hq0 hq1
  unfold chainOf
  generalize scores kx k0 k1 k2 q0 q1 = st at hst ⊢
  set s : Fin 640 → ℝ := fun r => (∑ e, K r e * Q g t e) * Real.log 2 with hsdef
  have hst' : ∀ r, st (ix2 r (colOf g t)) = ((s r * (Real.log 2)⁻¹ : ℝ) : EReal) := fun r => by
    rw [hst]; congr 1; simp only [hsdef]; field_simp [log2_pos.ne']
  set f : Fin 640 → EReal := fun r => score2 (seen pb pa t r) (s r) with hf
  have fx : ∀ r : Fin 256, blkX st (ix2 r (colOf g t)) = f ⟨r.val, by omega⟩ := fun r => by
    rw [blkX_apply, hst']; simp only [hf, score2]; exact (if_pos (c := seen pb pa t ⟨r.val, by omega⟩) (Or.inl (Or.inl r.isLt))).symm
  have fc : ∀ r : Fin 128, blkC st (ix2 r (colOf g t)) = f ⟨384 + r.val, by omega⟩ := fun r => by
    rw [blkC_apply, hst']; simp only [hf, score2]
    exact (if_pos (c := seen pb pa t ⟨384 + r.val, by omega⟩) (Or.inl (Or.inr ⟨by simp, by simp; omega⟩))).symm
  have fb : ∀ r : Fin 128, blkB (F := Ideal) st eb (ix2 r (colOf g t)) = f ⟨256 + r.val, by omega⟩ := fun r => by
    rw [blkB_apply st eb pb hb, hst']; simp only [hf, score2]
    refine if_congr ?_ rfl rfl
    simp only [seen]
    constructor
    · rintro ⟨h, h'⟩; exact Or.inr (Or.inl ⟨h, by omega, by omega, by omega⟩)
    · rintro ((h | h) | ⟨h, h'⟩ | h)
      · omega
      · omega
      · exact ⟨h, by omega⟩
      · omega
  have fa : ∀ r : Fin 128, blkA (F := Ideal) st ea (ix2 r (colOf g t)) = f ⟨512 + r.val, by omega⟩ := fun r => by
    rw [blkA_apply st ea pa ha, hst']; simp only [hf, score2]
    refine if_congr ?_ rfl rfl
    simp only [seen]
    constructor
    · rintro ⟨h, h'⟩; exact Or.inr (Or.inr ⟨h, by omega, by omega⟩)
    · rintro ((h | h) | h | ⟨h, h'⟩)
      · omega
      · omega
      · omega
      · exact ⟨h, by omega⟩
  obtain ⟨m, hm⟩ := colMax_real (rowMax8 (blkX st) (blkB (F := Ideal) st eb) (blkC st) (blkA (F := Ideal) st ea)) snk
    (colOf g t) (SK g) (hs g t) (rowMax8_lt _ _ _ _ _ (fun r => by rw [fx]; exact score2_lt_top _ _)
      (fun r => by rw [fb]; exact score2_lt_top _ _) (fun r => by rw [fc]; exact score2_lt_top _ _)
      (fun r => by rw [fa]; exact score2_lt_top _ _))
  generalize colMax (rowMax8 (blkX st) (blkB (F := Ideal) st eb) (blkC st) (blkA (F := Ideal) st ea)) snk = mx at hm ⊢
  have hp := probs_apply (blkX st) (blkB (F := Ideal) st eb) (blkC st) (blkA (F := Ideal) st ea) mx f (colOf g t) fx fb fc fa
  have hv := vpair_apply vx v0 v1 v2 (rowOf par d) (fun r => V r d) (fun r => hvx r d) (fun r => hv0 r d)
    (fun r => hv1 r d) (fun r => hv2 r d)
  have hk : sinkTerm snk mx (ix2 0 (colOf g t)) = Ideal.exp2 (score2 True (SK g) - (m : EReal)) := by
    show Ideal.exp2 (sink2 snk (ix2 0 (colOf g t)) - mx (ix2 0 (colOf g t))) = _
    rw [sink2_apply, hs, hm, ← EReal.coe_mul]; simp [score2]
  show quot par _ _ _ _ = _
  rw [quot_apply, hk]
  simp only [hp, hv, hm]
  exact kernel_mix (seen pb pa t) s (SK g) m (fun r => V r d)

end Cert.Attn

end
-- ==== Proof.Spec.lean ====
/- What both programs compute, index by index: a softmax over the sink, all context keys and the keys within 128 positions,
   its weighted sum of the values, the gate, the output projection, the gated residual and the final norm. -/
module

public import proofs.«01_k».proof.Proof.Softmax

@[expose] public section

noncomputable section

namespace Cert.Attn

open Idealize.ShloMosaic

/-- Feature `d` of key-value head `h`. -/
def chan (h : Fin 4) (d : Fin 64) : Fin 256 := ⟨h.val * 64 + d.val, by omega⟩
/-- Feature `d` of the query head `g` of key-value head `h`'s four. -/
def lane (h g : Fin 4) (d : Fin 64) : Fin 1024 := ⟨h.val * 256 + g.val * 64 + d.val, by omega⟩
/-- The query head `g` of key-value head `h`'s four. -/
def headOf (h g : Fin 4) : Fin 16 := ⟨h.val * 4 + g.val, by omega⟩

section
variable (q : Fin 8 → Fin 4096 → Fin 1024 → EReal) (k v : Fin 8 → Fin 4096 → Fin 256 → EReal)
  (kc vc : Fin 8 → Fin 256 → Fin 256 → EReal) (sink : Fin 16 → EReal)

/-- The score of a key, of the context or of the sequence, for the query at position `T`. -/
def keyScore (b : Fin 8) (T : Fin 4096) (h g : Fin 4) : Fin 256 ⊕ Fin 4096 → ℝ
  | .inl r => (∑ e, (kc b r (chan h e)).toReal * (q b T (lane h g e)).toReal) / 8
  | .inr r => (∑ e, (k b r (chan h e)).toReal * (q b T (lane h g e)).toReal) / 8

/-- A key takes part: the context's always, the sequence's within 128 positions. -/
def near (T : Fin 4096) : Fin 256 ⊕ Fin 4096 → Prop
  | .inl _ => True
  | .inr j => T.val ≤ j.val + 128 ∧ j.val ≤ T.val + 128

instance (T : Fin 4096) : DecidablePred (near T)
  | .inl _ => inferInstanceAs (Decidable True)
  | .inr _ => inferInstanceAs (Decidable (_ ∧ _))

/-- The key's value. -/
def keyValue (b : Fin 8) (h : Fin 4) (d : Fin 64) : Fin 256 ⊕ Fin 4096 → EReal
  | .inl r => vc b r (chan h d)
  | .inr r => v b r (chan h d)

/-- The attention's output at feature `d` of a query head. -/
def attnAt (b : Fin 8) (T : Fin 4096) (h g : Fin 4) (d : Fin 64) : EReal :=
  mix (near T) (keyScore q k kc b T h g) (sink (headOf h g)).toReal (keyValue v vc b h d)

/-- The attention's output at a lane. -/
def attn (b : Fin 8) (T : Fin 4096) (l : Fin 1024) : EReal :=
  attnAt q k v kc vc sink b T ⟨l.val / 256, by omega⟩ ⟨l.val / 64 % 4, by omega⟩ ⟨l.val % 64, by omega⟩

theorem attn_lane (b : Fin 8) (T : Fin 4096) (h g : Fin 4) (d : Fin 64) :
    attn q k v kc vc sink b T (lane h g d) = attnAt q k v kc vc sink b T h g d := by
  have e1 : (⟨(lane h g d).val / 256, by omega⟩ : Fin 4) = h := Fin.ext (by simp only [lane]; omega)
  have e2 : (⟨(lane h g d).val / 64 % 4, by omega⟩ : Fin 4) = g := Fin.ext (by simp only [lane]; omega)
  have e3 : (⟨(lane h g d).val % 64, by omega⟩ : Fin 64) = d := Fin.ext (by simp only [lane]; omega)
  rw [attn, e1, e2, e3]
end

/-- The residual stream after the attention: gated, projected, modulated, added. -/
def stream (o sg x : Fin 8 → Fin 4096 → Fin 1024 → EReal) (mod : Fin 16 → Fin 3072 → EReal) (w : Fin 1024 → Fin 1024 → EReal)
    (b : Fin 8) (T : Fin 4096) (c : Fin 1024) : EReal :=
  x b T c + mod ⟨b.val, by omega⟩ ⟨2048 + c.val, by omega⟩ * ∑ l, o b T l * sg b T l * w l c

/-- The final norm of a row. -/
def norm (y fg : Fin 1024 → EReal) (c : Fin 1024) : EReal :=
  y c * Ideal.rsqrt (Ideal.div (∑ x, y x * y x) (Ideal.ofBits .f32 0x44800000#32) + Ideal.ofBits .f32 0x358637BD#32) * fg c

/-- A softmax's weighted sum over other names of the keys: the keys that take part correspond, with their scores and values. -/
theorem mix_reindex {ι κ : Type*} [Fintype ι] [Fintype κ] (ok : ι → Prop) [DecidablePred ok] (s : ι → ℝ) (snk : ℝ) (v : ι → EReal)
    (ok' : κ → Prop) [DecidablePred ok'] (s' : κ → ℝ) (v' : κ → EReal) (φ : ι → κ) (ψ : κ → ι)
    (h : ∀ i, ok i → ok' (φ i) ∧ ψ (φ i) = i ∧ s i = s' (φ i) ∧ v i = v' (φ i))
    (h' : ∀ k, ok' k → ok (ψ k) ∧ φ (ψ k) = k) : mix ok s snk v = mix ok' s' snk v' := by
  classical
  have key : ∀ {M : Type} [AddCommMonoid M] (f : ι → M) (f' : κ → M), (∀ i, ¬ok i → f i = 0) → (∀ k, ¬ok' k → f' k = 0) →
      (∀ i, ok i → f i = f' (φ i)) → ∑ i, f i = ∑ k, f' k := by
    intro M _ f f' z z' e
    rw [← Finset.sum_filter_of_ne (p := ok) (fun i _ hi => by by_contra hn; exact hi (z i hn)),
      ← Finset.sum_filter_of_ne (p := ok') (fun i _ hi => by by_contra hn; exact hi (z' i hn))]
    refine Finset.sum_bij' (fun i _ => φ i) (fun k _ => ψ k) ?_ ?_ ?_ ?_ ?_
    · intro i hi; exact Finset.mem_filter.mpr ⟨Finset.mem_univ _, (h i (Finset.mem_filter.mp hi).2).1⟩
    · intro k hk; exact Finset.mem_filter.mpr ⟨Finset.mem_univ _, (h' k (Finset.mem_filter.mp hk).2).1⟩
    · intro i hi; exact (h i (Finset.mem_filter.mp hi).2).2.1
    · intro k hk; exact (h' k (Finset.mem_filter.mp hk).2).2
    · intro i hi; exact e i (Finset.mem_filter.mp hi).2
  have hw : ∀ i, ok i → weight (ok i) (s i) = weight (ok' (φ i)) (s' (φ i)) := fun i hi => by
    rw [weight, weight, if_pos hi, if_pos (h i hi).1, (h i hi).2.2.1]
  have ht : total ok s snk = total ok' s' snk := by
    unfold total
    rw [key (fun i => weight (ok i) (s i)) (fun k => weight (ok' k) (s' k)) (fun i hi => if_neg hi) (fun k hk => if_neg hk) hw]
  unfold mix
  rw [ht]
  refine key _ _ (fun i hi => ?_) (fun k hk => ?_) (fun i hi => ?_)
  · rw [weight, if_neg hi, zero_div, EReal.coe_zero, mul_zero]
  · rw [weight, if_neg hk, zero_div, EReal.coe_zero, mul_zero]
  · rw [hw i hi, (h i hi).2.2.2]

end Cert.Attn

end
-- ==== Proof.Point.lean ====
/- A grid point's chains, at an index, are the attention's output there. -/
module

public import proofs.«01_k».proof.Proof.Blocks
public import proofs.«01_k».proof.Proof.Chain
public import proofs.«01_k».proof.Proof.Spec

@[expose] public section

set_option maxRecDepth 16384

noncomputable section

namespace Cert.Attn

open Idealize.ShloMosaic Idealize.ShloMosaic.TcCoe Idealize.SL.Sem Cert.KernelIdeal Cert.KernelIdeal.Gen

/-! ## The loads at an index -/

theorem ldSink_apply (x : Vec Ideal S4x1x512 .f32) (h : Fin 4) (l : Fin 512) : ldSink x h (ix3 0 0 l) = x (ix3 h 0 l) := by
  pointwise [ldSink]
theorem ldQ_apply (x : Vec Ideal S1x512x1024 .bf16) (j h : Fin 4) (c : Fin 2) (t l : Fin 128) :
    ldQ x j h c (ix3 0 t l) = x (ix3 0 ⟨j.val * 128 + t.val, by omega⟩ ⟨h.val * 256 + c.val * 128 + l.val, by omega⟩) := by
  pointwise [ldQ]
theorem ldKx_apply (x : Vec Ideal S1x256x512 .bf16) (h : Fin 4) (r : Fin 256) (l : Fin 128) :
    ldKx x h (ix3 0 r l) = x (ix3 0 r ⟨h.val * 128 + l.val, by omega⟩) := by
  pointwise [ldKx]
theorem ldKe_apply (x : Vec Ideal S1x128x512 .bf16) (h : Fin 4) (r l : Fin 128) :
    ldKe x h (ix3 0 r l) = x (ix3 0 r ⟨h.val * 128 + l.val, by omega⟩) := by
  pointwise [ldKe]
theorem ldKc_apply (x : Vec Ideal S1x512x512 .bf16) (t h : Fin 4) (r l : Fin 128) :
    ldKc x t h (ix3 0 r l) = x (ix3 0 ⟨t.val * 128 + r.val, by omega⟩ ⟨h.val * 128 + l.val, by omega⟩) := by
  pointwise [ldKc]
theorem ldVx_apply (x : Vec Ideal S1x256x256 .bf16) (p : Fin 2) (f : Fin 128) (r : Fin 256) :
    ldVx x p (ix3 0 f r) = x (ix3 0 ⟨p.val * 128 + f.val, by omega⟩ r) := by
  pointwise [ldVx]
theorem ldVe_apply (x : Vec Ideal S1x256x128 .bf16) (p : Fin 2) (f r : Fin 128) :
    ldVe x p (ix3 0 f r) = x (ix3 0 ⟨p.val * 128 + f.val, by omega⟩ r) := by
  pointwise [ldVe]
theorem ldVc_apply (x : Vec Ideal S1x256x512 .bf16) (t : Fin 4) (p : Fin 2) (f r : Fin 128) :
    ldVc x t p (ix3 0 f r) = x (ix3 0 ⟨p.val * 128 + f.val, by omega⟩ ⟨t.val * 128 + r.val, by omega⟩) := by
  pointwise [ldVc]
theorem ldRows_apply {e : EltTy} (x : Vec Ideal S1x512x1024 e) (r : Fin 2) (y : Fin 256) (l : Fin 1024) :
    ldRows x r (ix3 0 y l) = x (ix3 0 ⟨r.val * 256 + y.val, by omega⟩ l) := by
  pointwise [ldRows]

/-! ## A grid point's keys and values -/

section
variable (m : (ℓ : Loc nD τ sig) → Buf (Elt Ideal) ℓ) (c : Dev nD) (t : Fin cfg0.N)

/-- The sequence's block of 128 that a grid point's key block `i` of six is. -/
def kb (t : Fin cfg0.N) (i : Fin 6) : Fin 32 := ⟨min (4 * (nOf t).val + i.val - 1) 31, by omega⟩

/-- The position of row `r` of a block of 128. -/
def posOf (n : Fin 32) (r : Fin 128) : Fin 4096 := ⟨n.val * 128 + r.val, by omega⟩

theorem keys_apply (h : Fin 4) (i : Fin 6) (r l : Fin 128) :
    ldK (iblk m c 2 t) (iblk m c 3 t) (iblk m c 4 t) h i (ix3 0 r l) =
      argK m c (bOf t) (posOf (kb t i) r) (chan h ⟨l.val % 64, by omega⟩) := by
  have hn := (nOf t).isLt
  fin_cases i
  · refine (ldKe_apply _ h r l).trans ((blk2 m c t _ _).trans ((V_k m c _ _ _).trans ?_))
    exact congrArg₂ (argK m c (bOf t)) (Fin.ext (by simp [posOf, kb]; omega)) (Fin.ext (by simp [chan]; omega))
  · refine (ldKc_apply _ 0 h r l).trans ((blk3 m c t _ _).trans ((V_k m c _ _ _).trans ?_))
    exact congrArg₂ (argK m c (bOf t)) (Fin.ext (by simp [posOf, kb]; omega)) (Fin.ext (by simp [chan]; omega))
  · refine (ldKc_apply _ 1 h r l).trans ((blk3 m c t _ _).trans ((V_k m c _ _ _).trans ?_))
    exact congrArg₂ (argK m c (bOf t)) (Fin.ext (by simp [posOf, kb]; omega)) (Fin.ext (by simp [chan]; omega))
  · refine (ldKc_apply _ 2 h r l).trans ((blk3 m c t _ _).trans ((V_k m c _ _ _).trans ?_))
    exact congrArg₂ (argK m c (bOf t)) (Fin.ext (by simp [posOf, kb]; omega)) (Fin.ext (by simp [chan]; omega))
  · refine (ldKc_apply _ 3 h r l).trans ((blk3 m c t _ _).trans ((V_k m c _ _ _).trans ?_))
    exact congrArg₂ (argK m c (bOf t)) (Fin.ext (by simp [posOf, kb]; omega)) (Fin.ext (by simp [chan]; omega))
  · refine (ldKe_apply _ h r l).trans ((blk4 m c t _ _).trans ((V_k m c _ _ _).trans ?_))
    exact congrArg₂ (argK m c (bOf t)) (Fin.ext (by simp [posOf, kb])) (Fin.ext (by simp [chan]; omega))

theorem values_apply (p : Fin 2) (i : Fin 6) (f r : Fin 128) :
    ldV (iblk m c 5 t) (iblk m c 6 t) (iblk m c 7 t) p i (ix3 0 f r) =
      argV m c (bOf t) (posOf (kb t i) r) ⟨p.val * 128 + f.val, by omega⟩ := by
  have hn := (nOf t).isLt
  fin_cases i
  · refine (ldVe_apply _ p f r).trans ((blk5 m c t _ _).trans ((V_v m c _ _ _).trans ?_))
    exact congrArg₂ (argV m c (bOf t)) (Fin.ext (by simp [posOf, kb]; omega)) rfl
  · refine (ldVc_apply _ 0 p f r).trans ((blk6 m c t _ _).trans ((V_v m c _ _ _).trans ?_))
    exact congrArg₂ (argV m c (bOf t)) (Fin.ext (by simp [posOf, kb]; omega)) rfl
  · refine (ldVc_apply _ 1 p f r).trans ((blk6 m c t _ _).trans ((V_v m c _ _ _).trans ?_))
    exact congrArg₂ (argV m c (bOf t)) (Fin.ext (by simp [posOf, kb]; omega)) rfl
  · refine (ldVc_apply _ 2 p f r).trans ((blk6 m c t _ _).trans ((V_v m c _ _ _).trans ?_))
    exact congrArg₂ (argV m c (bOf t)) (Fin.ext (by simp [posOf, kb]; omega)) rfl
  · refine (ldVc_apply _ 3 p f r).trans ((blk6 m c t _ _).trans ((V_v m c _ _ _).trans ?_))
    exact congrArg₂ (argV m c (bOf t)) (Fin.ext (by simp [posOf, kb]; omega)) rfl
  · refine (ldVe_apply _ p f r).trans ((blk7 m c t _ _).trans ((V_v m c _ _ _).trans ?_))
    exact congrArg₂ (argV m c (bOf t)) (Fin.ext (by simp [posOf, kb])) rfl

theorem ctxKeys_apply (h : Fin 4) (r : Fin 256) (l : Fin 128) :
    ldKx (iblk m c 8 t) h (ix3 0 r l) = argKc m c (bOf t) r (chan h ⟨l.val % 64, by omega⟩) := by
  refine (ldKx_apply _ h r l).trans ((blk8 m c t _ _).trans ((V_kc m c _ _ _).trans ?_))
  exact congrArg (argKc m c (bOf t) r) (Fin.ext (by simp [chan]; omega))

theorem ctxValues_apply (p : Fin 2) (f : Fin 128) (r : Fin 256) :
    ldVx (iblk m c 9 t) p (ix3 0 f r) = argVc m c (bOf t) r ⟨p.val * 128 + f.val, by omega⟩ :=
  (ldVx_apply _ p f r).trans ((blk9 m c t _ _).trans (V_vc m c _ _ _))

/-- The position of query `r` of block `j` of a grid point's four. -/
def qpos (t : Fin cfg0.N) (j : Fin 4) (r : Fin 128) : Fin 4096 := ⟨(nOf t).val * 512 + j.val * 128 + r.val, by omega⟩

theorem queries_apply (j h : Fin 4) (e : Fin 2) (r l : Fin 128) :
    ldQ (iblk m c 1 t) j h e (ix3 0 r l) =
      Ideal.div (argQ m c (bOf t) (qpos t j r) (lane h ⟨2 * e.val + l.val / 64, by omega⟩ ⟨l.val % 64, by omega⟩) *
        (((1 : ℝ) / 8 : ℝ) : EReal)) ((Real.log 2 : ℝ) : EReal) := by
  refine (ldQ_apply _ j h e r l).trans ((blk1 m c t _ _).trans ((V_q m c _ _ _).trans ?_))
  have := e.isLt
  exact congrArg₂ (fun a b => Ideal.div (argQ m c (bOf t) a b * (((1 : ℝ) / 8 : ℝ) : EReal)) ((Real.log 2 : ℝ) : EReal))
    (Fin.ext (by simp [qpos]; omega)) (Fin.ext (by simp [lane]; omega))

theorem sinks_apply (h g : Fin 4) (r : Fin 128) :
    ldSink (iblk m c 0 t) h (ix3 0 0 (colOf g r)) = argSink m c (headOf h g) := by
  refine (ldSink_apply _ h _).trans ((blk0 m c t _ _).trans ((V_sink m c _ _).trans ?_))
  exact congrArg (argSink m c) (Fin.ext (by simp [headOf, colOf]; omega))

/-! ## The masks at the ends of the sequence -/

theorem edge_before (n : Fin 8) : EdgeOk (some (Scalar.select (Scalar.cmpi CmpIPredicate.sgt (BitVec.ofNat 32 n.val) 0#32)
    (0 : EReal) ⊥)) (0 < n.val) := by
  fin_cases n
  · exact Or.inr (Or.inr ⟨rfl, by decide⟩)
  all_goals exact Or.inr (Or.inl ⟨rfl, by decide⟩)

theorem edge_after (n : Fin 8) : EdgeOk (some (Scalar.select (Scalar.cmpi CmpIPredicate.slt (BitVec.ofNat 32 n.val) 7#32)
    (0 : EReal) ⊥)) (n.val < 7) := by
  fin_cases n
  iterate 7 exact Or.inr (Or.inl ⟨rfl, by decide⟩)
  exact Or.inr (Or.inr ⟨rfl, by decide⟩)

theorem pay4_eq : k0_pay4 (F := Ideal) (grid0.coords t) =
    Scalar.select (Scalar.cmpi CmpIPredicate.sgt (BitVec.ofNat 32 (nOf t).val) 0#32) (0 : EReal) ⊥ := by
  pointwise [k0_pay4]
  rfl
theorem pay5_eq : k0_pay5 (F := Ideal) (grid0.coords t) =
    Scalar.select (Scalar.cmpi CmpIPredicate.slt (BitVec.ofNat 32 (nOf t).val) 7#32) (0 : EReal) ⊥ := by
  pointwise [k0_pay5]
  rfl

/-- The number of a block of 128 queries in the sequence. -/
def qb (t : Fin cfg0.N) (j : Fin 4) : ℕ := 4 * (nOf t).val + j.val

theorem edgeB (j : Fin 4) : EdgeOk (beforeOf (F := Ideal) (grid0.coords t) j)
    (0 < qb t j) := by
  fin_cases j
  · show EdgeOk (some (k0_pay4 (F := Ideal) (grid0.coords t))) _
    rw [pay4_eq]
    have h : (0 < qb t ⟨0, by omega⟩) = (0 < (nOf t).val) := by simp [qb]
    exact h ▸ edge_before (nOf t)
  all_goals exact Or.inl ⟨rfl, by simp [qb]⟩

theorem edgeA (j : Fin 4) : EdgeOk (afterOf (F := Ideal) (grid0.coords t) j)
    (qb t j < 31) := by
  have hn := (nOf t).isLt
  fin_cases j
  iterate 3 exact Or.inl ⟨rfl, by simp [qb]; omega⟩
  show EdgeOk (some (k0_pay5 (F := Ideal) (grid0.coords t))) _
  rw [pay5_eq]
  have h : (qb t ⟨3, by omega⟩ < 31) = ((nOf t).val < 7) := by simp [qb]; omega
  exact h ▸ edge_after (nOf t)

/-! ## The chain -/

/-- Key `r` of a chain's 640: a context key or a position of the sequence. -/
def keyAt (j : Fin 4) (r : Fin 640) : Fin 256 ⊕ Fin 4096 :=
  if h : r.val < 256 then .inl ⟨r.val, h⟩
  else .inr (posOf (kb t ⟨j.val + (r.val - 256) / 128, by omega⟩) ⟨(r.val - 256) % 128, by omega⟩)

theorem keyAt_ctx (j : Fin 4) (r : Fin 256) : keyAt t j ⟨r.val, by omega⟩ = .inl r := by simp [keyAt]
theorem keyAt_seq (j : Fin 4) (i : ℕ) (hi : i < 3) (r : Fin 128) (a : Fin 640) (ha : a.val = 256 + i * 128 + r.val) :
    keyAt t j a = .inr (posOf (kb t ⟨j.val + i, by omega⟩) r) := by
  unfold keyAt
  rw [dif_neg (by omega)]
  congr 2
  · congr 1; apply Fin.ext; simp only; omega
  · apply Fin.ext; simp only; omega

/-- The position of a key of the sequence that a chain takes part of. -/
theorem keyAt_pos (j : Fin 4) (r : Fin 640) (h : 256 ≤ r.val) (hb : r.val < 384 → 0 < qb t j) (ha : 512 ≤ r.val → qb t j < 31) :
    ∃ y : Fin 4096, keyAt t j r = .inr y ∧ y.val + 384 = r.val + qb t j * 128 := by
  have hn := (nOf t).isLt
  refine ⟨_, dif_neg (by omega), ?_⟩
  simp only [posOf, kb, qb] at *
  omega

/-- A feature of a key, as a real number. -/
def keyR (b : Fin 8) (h : Fin 4) (e : Fin 64) : Fin 256 ⊕ Fin 4096 → ℝ
  | .inl r => (argKc m c b r (chan h e)).toReal
  | .inr r => (argK m c b r (chan h e)).toReal

/-- The finiteness the scores need. -/
structure Finite : Prop where
  q : ∀ b r l, argQ m c b r l = ((argQ m c b r l).toReal : EReal)
  k : ∀ b r l, argK m c b r l = ((argK m c b r l).toReal : EReal)
  kc : ∀ b r l, argKc m c b r l = ((argKc m c b r l).toReal : EReal)
  sink : ∀ h, argSink m c h = ((argSink m c h).toReal : EReal)

theorem score_eq (b : Fin 8) (T : Fin 4096) (h g : Fin 4) (x : Fin 256 ⊕ Fin 4096) :
    (∑ e, keyR m c b h e x * ((argQ m c b T (lane h g e)).toReal / 8 / Real.log 2)) * Real.log 2 =
      keyScore (argQ m c) (argK m c) (argKc m c) b T h g x := by
  have h2 := log2_pos.ne'
  cases x <;> simp only [keyR, keyScore, Finset.sum_mul, Finset.sum_div] <;>
    exact Finset.sum_congr rfl fun e _ => by field_simp

/-- A chain of a grid point, at an index, is the attention's output of its head there. -/
theorem chainAt_apply (hf : Finite m c) (j h : Fin 4) (d : Fin 64) (g : Fin 4) (r : Fin 128) :
    chainAt (grid0.coords t) (iblk m c 0 t) (iblk m c 1 t) (iblk m c 2 t) (iblk m c 3 t) (iblk m c 4 t) (iblk m c 5 t)
      (iblk m c 6 t) (iblk m c 7 t) (iblk m c 8 t) (iblk m c 9 t) j h (ix2 d (colOf g r)) =
    attnAt (argQ m c) (argK m c) (argV m c) (argKc m c) (argVc m c) (argSink m c) (bOf t) (qpos t j r) h g d := by
  have hrow : ∀ e : Fin 64, (⟨(pairOf h).val * 128 + (rowOf (parOf h) e).val, by omega⟩ : Fin 256) = chan h e := by
    intro e; apply Fin.ext; fin_cases h <;> simp [rowOf, chan, pairOf, parOf] <;> omega
  refine (chainOf_apply _ _ _ _ _ _ _ _ _ _ _ (parOf h) _ _ (0 < qb t j) (qb t j < 31) (edgeB t j) (edgeA t j)
    (fun y e => keyR m c (bOf t) h e (keyAt t j y))
    (fun g' y e => (argQ m c (bOf t) (qpos t j y) (lane h g' e)).toReal / 8 / Real.log 2)
    (fun g' => (argSink m c (headOf h g')).toReal)
    (fun y e => keyValue (argV m c) (argVc m c) (bOf t) h e (keyAt t j y))
    ?_ ?_ ?_ ?_ ?_ ?_ ?_ ?_ ?_ ?_ ?_ d g r).trans ?_
  · intro y l; rw [ctxKeys_apply, keyAt_ctx]; exact hf.kc _ _ _
  · intro y l; rw [keys_apply, keyAt_seq t j 0 (by omega) y ⟨256 + y.val, by omega⟩ rfl]; exact hf.k _ _ _
  · intro y l; rw [keys_apply]; refine (hf.k _ _ _).trans ?_; rw [keyAt_seq t j 1 (by omega) y ⟨384 + y.val, by omega⟩ rfl]; rfl
  · intro y l; rw [keys_apply]; refine (hf.k _ _ _).trans ?_; rw [keyAt_seq t j 2 (by omega) y ⟨512 + y.val, by omega⟩ rfl]; rfl
  · intro y l; rw [queries_apply, hf.q, Ideal.div_coe log2_pos.ne', ← EReal.coe_mul, ← EReal.coe_mul]
    congr 1
    simp only [Fin.val_zero, mul_zero, zero_add]; ring
  · intro y l; rw [queries_apply, hf.q, Ideal.div_coe log2_pos.ne', ← EReal.coe_mul, ← EReal.coe_mul]
    congr 1
    simp only [Fin.val_one, mul_one]; ring
  · intro g' y; rw [sinks_apply]; exact hf.sink _
  · intro y e; rw [ctxValues_apply, hrow, keyAt_ctx]; rfl
  · intro y e; rw [values_apply, hrow, keyAt_seq t j 0 (by omega) y ⟨256 + y.val, by omega⟩ rfl]; rfl
  · intro y e; rw [values_apply, hrow, keyAt_seq t j 1 (by omega) y ⟨384 + y.val, by omega⟩ rfl]; rfl
  · intro y e; rw [values_apply, hrow, keyAt_seq t j 2 (by omega) y ⟨512 + y.val, by omega⟩ rfl]; rfl
  · have hn := (nOf t).isLt
    refine mix_reindex _ _ _ _ _ _ _ (keyAt t j)
      (fun k => match k with
        | .inl y => ⟨y.val, by omega⟩
        | .inr y => ⟨min (y.val + 384 - qb t j * 128) 639, by omega⟩) ?_ ?_
    · intro i hi
      refine ⟨?_, ?_, score_eq m c _ _ _ _ _, rfl⟩
      · by_cases hc : i.val < 256
        · simp only [keyAt, dif_pos hc, near]
        · obtain ⟨y, e, hy⟩ := keyAt_pos t j i (by omega) (fun _ => by unfold seen at hi; omega) (fun _ => by unfold seen at hi; omega)
          rw [e]
          simp only [near, qpos, qb] at *
          unfold seen at hi
          omega
      · by_cases hc : i.val < 256
        · simp only [keyAt, dif_pos hc]
        · obtain ⟨y, e, hy⟩ := keyAt_pos t j i (by omega) (fun _ => by unfold seen at hi; omega) (fun _ => by unfold seen at hi; omega)
          rw [e]
          apply Fin.ext
          simp only
          omega
    · rintro (y | y) hy
      · exact ⟨Or.inl (Or.inl y.isLt), keyAt_ctx t j y⟩
      · have hT : (qpos t j r).val = qb t j * 128 + r.val := by simp only [qpos, qb]; omega
        simp only [near, hT] at hy
        have hq : qb t j ≤ 31 := by simp only [qb]; omega
        have hv : (min (y.val + 384 - qb t j * 128) 639) = y.val + 384 - qb t j * 128 := by omega
        obtain ⟨z, e, hz⟩ := keyAt_pos t j ⟨min (y.val + 384 - qb t j * 128) 639, by omega⟩ (by simp only; omega)
          (fun h => by simp only at h; omega) (fun h => by simp only at h; omega)
        refine ⟨?_, e.trans (congrArg _ (Fin.ext (by simp only at hz; omega)))⟩
        simp only [seen]
        omega

end

end Cert.Attn

end
-- ==== Proof.Row.lean ====
/- A grid point's rows of the result: the four chains side by side, the gate, the projection, the residual and the norm. -/
module

public import proofs.«01_k».proof.Proof.Point

@[expose] public section

set_option maxRecDepth 16384

noncomputable section

namespace Cert.Attn

open Idealize.ShloMosaic Idealize.ShloMosaic.TcCoe Idealize.SL.Sem Cert.KernelIdeal Cert.KernelIdeal.Gen

theorem colsL_apply (o : FVec Ideal S64x512 .f32) (r l : Fin 128) :
    colsL o (ix2 r l) = o (ix2 ⟨l.val % 64, by omega⟩ (colOf ⟨l.val / 64, by omega⟩ r)) := by
  pointwise [colsL]
  split_ifs <;> exact congrArg₂ (fun a b => o (ix2 a b)) (Fin.ext (by first | omega | (dsimp only <;> omega)))
    (Fin.ext (by first | omega | (simp only [colOf] <;> omega)))

theorem colsR_apply (o : FVec Ideal S64x512 .f32) (r l : Fin 128) :
    colsR o (ix2 r l) = o (ix2 ⟨l.val % 64, by omega⟩ (colOf ⟨2 + l.val / 64, by omega⟩ r)) := by
  pointwise [colsR]
  split_ifs <;> exact congrArg₂ (fun a b => o (ix2 a b)) (Fin.ext (by first | omega | (dsimp only <;> omega)))
    (Fin.ext (by first | omega | (simp only [colOf] <;> omega)))

/-- A row of four chains side by side holds each head's output in its lanes. -/
theorem rowBlk_apply (o : Fin 4 → FVec Ideal S64x512 .f32) (G : Fin 1024 → EReal) (r : Fin 128)
    (hG : ∀ h g d, o h (ix2 d (colOf g r)) = G (lane h g d)) (l : Fin 1024) :
    rowBlk (o 0) (o 1) (o 2) (o 3) (ix2 r l) = G l := by
  pointwise [rowBlk]
  split_ifs <;> (simp only [colsL_apply, colsR_apply, hG]; exact congrArg G (Fin.ext (by simp [lane] <;> omega)))

theorem gated_apply (ra rb : FVec Ideal S128x1024 .f32) (sg : Vec Ideal S1x256x1024 .bf16) (y : Fin 256) (l : Fin 1024) :
    gated ra rb sg (ix2 y l) = (if h : y.val < 128 then ra (ix2 ⟨y.val, h⟩ l) else rb (ix2 ⟨y.val - 128, by omega⟩ l)) *
      sg (ix3 0 y l) := by
  pointwise [gated]

theorem ldW_apply (w : Vec Ideal S1024x1024 .bf16) (i : Fin 4) (e : Fin 1024) (l : Fin 256) :
    ldW w i (ix2 e l) = w (ix2 e ⟨i.val * 256 + l.val, by omega⟩) := by
  pointwise [ldW]

theorem resid_apply (o : FVec Ideal S256x1024 .bf16) (w : Vec Ideal S1024x1024 .bf16) (x : Vec Ideal S1x256x1024 .f32)
    (g : FVec Ideal S1x1024 .f32) (y : Fin 256) (l : Fin 1024) :
    resid o w x g (ix2 y l) = x (ix3 0 y l) + g (ix2 0 l) * ∑ e, o (ix2 y e) * w (ix2 e l) := by
  pointwise [resid, proj]
  simp only [ldW_apply]
  split_ifs <;> exact congrArg (fun z : Fin 1024 => x (ix3 0 y l) + g (ix2 0 l) * ∑ e, o (ix2 y e) * w (ix2 e z))
    (Fin.ext (by simp <;> omega))

theorem normed_apply (r : FVec Ideal S256x1024 .f32) (fg : Vec Ideal S1x1024 .f32) (y : Fin 256) (l : Fin 1024) :
    normed r fg (ix3 0 y l) = norm (fun x => r (ix2 y x)) (fun x => fg (ix2 0 x)) l := by
  pointwise [normed, norm]

theorem modRow_apply (x : Vec Ideal S1x1x3072 .f32) (l : Fin 1024) :
    k0_pay8 (F := Ideal) (View.ld x r0_0) (ix2 0 l) = x (ix3 0 0 ⟨2048 + l.val, by omega⟩) := by
  pointwise [k0_pay8]

theorem fgRow_apply (x : Vec Ideal S1x1024 .f32) (l : Fin 1024) :
    View.ld x r0_78 (ix2 0 l) = x (ix2 0 l) := by
  pointwise []

section
variable (m : (ℓ : Loc nD τ sig) → Buf (Elt Ideal) ℓ) (c : Dev nD) (t : Fin cfg0.N)

/-- The result, at a position and a feature. -/
def result (b : Fin 8) (T : Fin 4096) (l : Fin 1024) : EReal :=
  norm (stream (attn (argQ m c) (argK m c) (argV m c) (argKc m c) (argVc m c) (argSink m c)) (argSg m c) (argX m c) (argMod m c)
    (argW m c) b T) (argFg m c) l

/-- A block of 128 rows of the attention's output. -/
theorem rowAt_apply (hf : Finite m c) (j : Fin 4) (r : Fin 128) (l : Fin 1024) :
    rowAt (grid0.coords t) (iblk m c 0 t) (iblk m c 1 t) (iblk m c 2 t) (iblk m c 3 t) (iblk m c 4 t) (iblk m c 5 t)
      (iblk m c 6 t) (iblk m c 7 t) (iblk m c 8 t) (iblk m c 9 t) j (ix2 r l) =
    attn (argQ m c) (argK m c) (argV m c) (argKc m c) (argVc m c) (argSink m c) (bOf t) (qpos t j r) l :=
  rowBlk_apply (fun h => chainAt (grid0.coords t) (iblk m c 0 t) (iblk m c 1 t) (iblk m c 2 t) (iblk m c 3 t) (iblk m c 4 t)
      (iblk m c 5 t) (iblk m c 6 t) (iblk m c 7 t) (iblk m c 8 t) (iblk m c 9 t) j h) _ r
    (fun h g d => (chainAt_apply m c t hf j h d g r).trans (attn_lane _ _ _ _ _ _ _ _ h g d).symm) l

/-- The position of row `y` of half `r` of a grid point's rows. -/
def hpos (t : Fin cfg0.N) (r : Fin 2) (y : Fin 256) : Fin 4096 := ⟨(nOf t).val * 512 + r.val * 256 + y.val, by omega⟩

theorem gatedAt_apply (hf : Finite m c) (r : Fin 2) (y : Fin 256) (l : Fin 1024) :
    gatedAt (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) r (ix2 y l) =
    attn (argQ m c) (argK m c) (argV m c) (argKc m c) (argVc m c) (argSink m c) (bOf t) (hpos t r y) l *
      argSg m c (bOf t) (hpos t r y) l := by
  refine (gated_apply _ _ _ y l).trans (congrArg₂ HMul.hMul ?_ ?_)
  · split_ifs with h
    · refine (rowAt_apply m c t hf _ _ l).trans (congrArg (fun T => attn _ _ _ _ _ _ (bOf t) T l) (Fin.ext ?_))
      simp only [qpos, hpos]; omega
    · refine (rowAt_apply m c t hf _ _ l).trans (congrArg (fun T => attn _ _ _ _ _ _ (bOf t) T l) (Fin.ext ?_))
      simp only [qpos, hpos]; omega
  · refine (ldRows_apply _ r y l).trans ((blk10 m c t _ _).trans ((V_sg m c _ _ _).trans ?_))
    exact congrArg (fun T => argSg m c (bOf t) T l) (Fin.ext (by simp only [hpos]; omega))

/-- What a grid point stores in a half of its rows, at an index. -/
theorem halfAt_apply (hf : Finite m c) (r : Fin 2) (y : Fin 256) (l : Fin 1024) :
    halfAt (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) r (ix3 0 y l) = result m c (bOf t) (hpos t r y) l := by
  refine (normed_apply _ _ y l).trans ?_
  unfold result
  refine congrArg₂ (fun a b => norm a b l) (funext fun x => ?_) (funext fun x => ?_)
  · refine (resid_apply _ _ _ _ y x).trans ?_
    unfold stream
    refine congrArg₂ HAdd.hAdd ?_ (congrArg₂ HMul.hMul ?_ (Finset.sum_congr rfl fun e _ => congrArg₂ HMul.hMul ?_ ?_))
    · refine (ldRows_apply _ r y x).trans ((blk11 m c t _ _).trans ?_)
      rw [V_main_arg7]
      exact congrArg (fun T => argX m c (bOf t) T x) (Fin.ext (by simp only [hpos]; omega))
    · refine (modRow_apply _ x).trans ((blk12 m c t _).trans ?_)
      rw [V_main_arg8]
      rfl
    · exact gatedAt_apply m c t hf r y e
    · exact (blk13 m c t _ _).trans (V_w m c _ _)
  · exact (fgRow_apply _ x).trans ((blk14 m c t _).trans (V_fg m c _))

end

end Cert.Attn

end
-- ==== Proof.Out.lean ====
/- The kernel's body at one grid point is the model of Proof/Model.lean. -/
module

public import proofs.«01_k».proof.Proof.Model

@[expose] public section

set_option maxRecDepth 100000
set_option maxHeartbeats 0

noncomputable section

namespace Cert.Attn

open Idealize.ShloMosaic Idealize.SL.Sem Cert.KernelIdeal Cert.KernelIdeal.Gen

variable {F : FTy → Type} [FloatOps F] [Named F]

/-- The block a grid point leaves is its two halves of rows, each the model's. -/
theorem out_eq_model (i : grid0.Coords) (x0 : Vec F S4x1x512 .f32) (x1 : Vec F S1x512x1024 .bf16)
    (x2 : Vec F S1x128x512 .bf16) (x3 : Vec F S1x512x512 .bf16) (x4 : Vec F S1x128x512 .bf16)
    (x5 : Vec F S1x256x128 .bf16) (x6 : Vec F S1x256x512 .bf16) (x7 : Vec F S1x256x128 .bf16)
    (x8 : Vec F S1x256x512 .bf16) (x9 : Vec F S1x256x256 .bf16) (x10 : Vec F S1x512x1024 .bf16)
    (x11 : Vec F S1x512x1024 .f32) (x12 : Vec F S1x1x3072 .f32) (x13 : Vec F S1024x1024 .bf16)
    (x14 : Vec F S1x1024 .f32) :
    out0_15 i x0 x1 x2 x3 x4 x5 x6 x7 x8 x9 x10 x11 x12 x13 x14 =
      View.canon [⟨r0_79, halfAt i x0 x1 x2 x3 x4 x5 x6 x7 x8 x9 x10 x11 x12 x13 x14 1⟩,
        ⟨r0_60, halfAt i x0 x1 x2 x3 x4 x5 x6 x7 x8 x9 x10 x11 x12 x13 x14 0⟩] := rfl

end Cert.Attn

end
-- ==== Proof.Whole.lean ====
/- The kernel's result array after the run. -/
module

public import proofs.«01_k».proof.Proof.Row
public import proofs.«01_k».proof.Proof.Out

@[expose] public section

set_option maxRecDepth 16384

noncomputable section

namespace Cert.Attn

open Idealize.ShloMosaic Idealize.ShloMosaic.TcCoe Idealize.SL.Sem Cert.KernelIdeal Cert.KernelIdeal.Gen

/-- A block stored in two halves of rows, read at a row. -/
theorem halves_apply (a : Fin 2 → FVec Ideal S1x256x1024 .f32) (G : S1x512x1024.Idx → EReal)
    (h : ∀ (r : Fin 2) (y : Fin 256) (l : Fin 1024), a r (ix3 0 y l) = G (ix3 0 ⟨r.val * 256 + y.val, by omega⟩ l))
    (y : S1x512x1024.Idx) : View.canon (Val := Elt Ideal) (s := S1x512x1024) (e := .f32) [⟨r0_79, a 1⟩, ⟨r0_60, a 0⟩] y = G y := by
  canon_tiles x hx
  · exact (congrArg (a 1) (show x = ix3 (0 : Fin 1) (x 1) (x 2) by ext b; fin_cases b <;> simp <;> omega)).trans
      ((h 1 (x 1) (x 2)).trans (congrArg G (by ext b; fin_cases b <;> simp <;> omega)))
  · exact (congrArg (a 0) (show x = ix3 (0 : Fin 1) (x 1) (x 2) by ext b; fin_cases b <;> simp <;> omega)).trans
      ((h 0 (x 1) (x 2)).trans (congrArg G (by ext b; fin_cases b <;> simp <;> omega)))

section
variable (m : (ℓ : Loc nD τ sig) → Buf (Elt Ideal) ℓ) (c : Dev nD)

/-- The kernel's result array is the result, index by index. -/
theorem array_eq (hf : Finite m c) :
    (dats m 0 c).arrAt 15 cfg0.N = fun i : S8x4096x1024.Idx => result m c (i 0) (i 1) (i 2) := by
  refine (dats m 0 c).arrAt_eq_of_covers 15 _ (by decide +kernel) fun t ht y => ?_
  blk_simp
  rw [after0_15, out_eq_model]
  have h15 := index_facts t
  have h := h15.2.2.2.2.2.2.2.2.2.2.2.2.2.2.2
  refine halves_apply (fun r => halfAt (grid0.coords t) (iblk m c 0 t) (iblk m c 1 t) (iblk m c 2 t) (iblk m c 3 t)
    (iblk m c 4 t) (iblk m c 5 t) (iblk m c 6 t) (iblk m c 7 t) (iblk m c 8 t) (iblk m c 9 t) (iblk m c 10 t)
    (iblk m c 11 t) (iblk m c 12 t) (iblk m c 13 t) (iblk m c 14 t) r)
    (fun y => result m c ((win0_15.blk t).view.emb y 0) ((win0_15.blk t).view.emb y 1) ((win0_15.blk t).view.emb y 2))
    (fun r y l => (halfAt_apply m c t hf r y l).trans ?_) y
  have e0 : (win0_15.blk t).view.emb (ix3 (0 : Fin 1) (⟨r.val * 256 + y.val, by omega⟩ : Fin 512) l) 0 = bOf t :=
    Fin.ext (by blk_simp [h]; simp)
  have e1 : (win0_15.blk t).view.emb (ix3 (0 : Fin 1) (⟨r.val * 256 + y.val, by omega⟩ : Fin 512) l) 1 = hpos t r y :=
    Fin.ext (by blk_simp [h]; simp [hpos]; omega)
  have e2 : (win0_15.blk t).view.emb (ix3 (0 : Fin 1) (⟨r.val * 256 + y.val, by omega⟩ : Fin 512) l) 2 = l :=
    Fin.ext (by blk_simp [h])
  exact (congr (congr (congrArg (result m c) e0) e1) e2).symm

end

end Cert.Attn

end
-- ==== Proof.Ref.lean ====
/- The reference's result, index by index. -/
module

public import proofs.«01_k».proof.Proof.Spec
public import proofs.«01_k».proof.Proof.Gen.ReferenceIdeal.Read
public import Idealize.ShloMosaic.Lib.Pointwise

@[expose] public section

set_option maxRecDepth 16384

noncomputable section

namespace Cert.Attn.Ref

open Idealize.ShloMosaic Idealize.ShloMosaic.TcCoe Idealize.SL.Sem Cert.ReferenceIdeal Cert.ReferenceIdeal.Gen
open Cert.ReferenceIdeal.Read

section
variable (q : FVec Ideal S8x4096x1024 .f32) (k v : FVec Ideal S8x4096x256 .f32) (kc vc : FVec Ideal S8x256x256 .f32)
  (sink : FVec Ideal S16 .f32) (sg x : FVec Ideal S8x4096x1024 .f32) (mod : FVec Ideal S16x1x3072 .f32)
  (w : FVec Ideal S1024x1024 .f32) (fg : FVec Ideal S1024 .f32)

theorem ofBits_neg_inf : Ideal.ofBits FTy.f32 4286578688#32 = ⊥ := by simp [Ideal.ofBits, Ideal.ieee]

theorem win_apply (b : Fin 8) (h g : Fin 4) (T j : Fin 4096) :
    val_main_v17 (F := Ideal) q k (ix5 b h g T j) =
      (∑ e, k (ix3 b j (chan h e)) * q (ix3 b T (lane h g e))) * Ideal.ofBits .f32 0x3E000000#32 := by
  pointwise [val_main_v17, val_main_v16, val_main_cst, val_main_v15, val_main_v14, val_main_v0, val_main_v1]
  rfl

theorem ctx_apply (b : Fin 8) (h g : Fin 4) (T : Fin 4096) (r : Fin 256) :
    val_main_v22 (F := Ideal) q kc (ix5 b h g T r) =
      (∑ e, kc (ix3 b r (chan h e)) * q (ix3 b T (lane h g e))) * Ideal.ofBits .f32 0x3E000000#32 := by
  pointwise [val_main_v22, val_main_v21, val_main_cst_1, val_main_v20, val_main_v19, val_main_v0, val_main_v3]
  rfl

theorem sink_apply (b : Fin 8) (h g : Fin 4) (T : Fin 4096) :
    val_main_v25 (F := Ideal) sink (ix5 b h g T 0) = sink (ix1 (headOf h g)) := by
  pointwise [val_main_v25, val_main_v24, val_main_v23]
  rfl

/-- The window's test on two positions. -/
theorem valid_apply (T j : Fin 4096) : val_main_v13 (F := Ideal) (ix2 T j) = if near T (.inr j) then 1#1 else 0#1 := by
  pointwise [val_main_v13, val_main_v12, val_main_v11, val_main_v10, val_main_v9, val_main_v8, val_main_v7, val_main_v6,
    val_main_v5, val_main_c]
  have hT := T.isLt
  have hj := j.isLt
  have e : ((BitVec.ofNat 32 T.val - BitVec.ofNat 32 j.val).toInt) = (T.val : ℤ) - j.val := by
    rw [BitVec.toInt_sub, BitVec.toInt_ofNat', BitVec.toInt_ofNat']
    simp only [Int.bmod_def]
    omega
  simp only [IntOp.cmpi, IntOp.absi, IntOp.subi, BitVec.msb_eq_toInt, BitVec.sle_eq_decide, decide_eq_true_eq]
  have h128 : (128#32).toInt = 128 := by decide
  rw [h128, e]
  by_cases hlt : (T.val : ℤ) - j.val < 0
  · rw [if_pos hlt, BitVec.toInt_neg, e]
    have : ((-((T.val : ℤ) - j.val)).bmod (2 ^ 32)) = (j.val : ℤ) - T.val := by simp only [Int.bmod_def]; omega
    rw [this]
    by_cases h1 : near T (.inr j)
    · rw [if_pos h1, decide_eq_true (by have := h1.1; have := h1.2; omega)]; rfl
    · rw [if_neg h1, decide_eq_false (by intro h2; exact h1 ⟨by omega, by omega⟩)]; rfl
  · rw [if_neg hlt, e]
    by_cases h1 : near T (.inr j)
    · rw [if_pos h1, decide_eq_true (by have := h1.1; have := h1.2; omega)]; rfl
    · rw [if_neg h1, decide_eq_false (by intro h2; exact h1 ⟨by omega, by omega⟩)]; rfl

theorem masked_apply (b : Fin 8) (h g : Fin 4) (T j : Fin 4096) :
    val_main_v18 (F := Ideal) q k (ix5 b h g T j) =
      if near T (.inr j) then val_main_v17 (F := Ideal) q k (ix5 b h g T j) else (⊥ : EReal) := by
  pointwise [val_main_v18, val_main_call0_v1, val_main_call0_v2, val_main_call0_v0, val_main_cst_0]
  rw [valid_apply]
  split_ifs
  · rfl
  · exact ofBits_neg_inf

theorem row_apply (b : Fin 8) (h g : Fin 4) (T : Fin 4096) (y : Fin 4353) :
    val_main_v26 (F := Ideal) q k kc sink (ix5 b h g T y) =
      if h_1 : y.val < 1 then val_main_v25 (F := Ideal) sink (ix5 b h g T ⟨y.val, h_1⟩)
      else if h_2 : y.val - 1 < 256 then val_main_v22 (F := Ideal) q kc (ix5 b h g T ⟨y.val - 1, h_2⟩)
      else val_main_v18 (F := Ideal) q k (ix5 b h g T ⟨y.val - 1 - 256, by omega⟩) := by
  pointwise [val_main_v26]

/-- A key's column among the keys. -/
def keyCol : Fin 256 ⊕ Fin 4096 → Fin 4352
  | .inl r => ⟨r.val, by omega⟩
  | .inr j => ⟨256 + j.val, by omega⟩

theorem sum_keys (f : Fin 4352 → EReal) : ∑ y, f y = ∑ x, f (keyCol x) := by
  rw [← Equiv.sum_comp (finSumFinEquiv (m := 256) (n := 4096)) f]
  refine Finset.sum_congr rfl fun x _ => congrArg f ?_
  cases x <;> rfl

theorem eighth (r : ℝ) : (r : EReal) * Ideal.ofBits .f32 0x3E000000#32 = ((r / 8 : ℝ) : EReal) := by
  rw [show Ideal.ofBits .f32 0x3E000000#32 = (((1 : ℝ) / 8 : ℝ) : EReal) by simp [Ideal.ofBits, Ideal.ieee, -EReal.coe_mul]; norm_num,
    ← EReal.coe_mul]
  congr 1; ring

/-- The queries', keys', context keys' and sinks' elements are real numbers. -/
structure Finite : Prop where
  q : ∀ b r l, q (ix3 b r l) = ((EReal.toReal (q (ix3 b r l)) : ℝ) : EReal)
  k : ∀ b r l, k (ix3 b r l) = ((EReal.toReal (k (ix3 b r l)) : ℝ) : EReal)
  kc : ∀ b r l, kc (ix3 b r l) = ((EReal.toReal (kc (ix3 b r l)) : ℝ) : EReal)
  sink : ∀ h, sink (ix1 h) = ((EReal.toReal (sink (ix1 h)) : ℝ) : EReal)

/-- The score of a key. -/
abbrev score (b : Fin 8) (T : Fin 4096) (h g : Fin 4) : Fin 256 ⊕ Fin 4096 → ℝ :=
  keyScore (fun b r l => q (ix3 b r l)) (fun b r l => k (ix3 b r l)) (fun b r l => kc (ix3 b r l)) b T h g

theorem row_sink (b : Fin 8) (h g : Fin 4) (T : Fin 4096) :
    val_main_v26 (F := Ideal) q k kc sink (ix5 b h g T 0) = sink (ix1 (headOf h g)) := by
  rw [row_apply, dif_pos (by simp)]
  exact sink_apply sink b h g T

theorem row_key (hf : Finite q k kc sink) (b : Fin 8) (h g : Fin 4) (T : Fin 4096) (x : Fin 256 ⊕ Fin 4096) :
    val_main_v26 (F := Ideal) q k kc sink (ix5 b h g T (keyCol x).succ) = scoreE (near T x) (score q k kc b T h g x) := by
  rw [row_apply, dif_neg (by simp)]
  cases x with
  | inl r =>
    rw [dif_pos (by simp [keyCol])]
    refine (ctx_apply q kc b h g T r).trans ?_
    refine Eq.trans ?_ (if_pos trivial).symm
    refine (congrArg (· * Ideal.ofBits .f32 0x3E000000#32) ((Finset.sum_congr rfl fun e _ => ?_).trans
      (coe_sum _ _).symm)).trans (eighth _)
    rw [hf.kc, hf.q, ← EReal.coe_mul]
  | inr j =>
    rw [dif_neg (by simp [keyCol])]
    have ej : (⟨(keyCol (.inr j)).succ.val - 1 - 256, by have := (keyCol (.inr j)).succ.isLt; omega⟩ : Fin 4096) = j := Fin.ext (by simp [keyCol])
    rw [ej, masked_apply, scoreE]
    refine if_congr Iff.rfl ?_ rfl
    refine (win_apply q k b h g T j).trans ?_
    refine (congrArg (· * Ideal.ofBits .f32 0x3E000000#32) ((Finset.sum_congr rfl fun e _ => ?_).trans
      (coe_sum _ _).symm)).trans (eighth _)
    rw [hf.k, hf.q, ← EReal.coe_mul]

theorem keyCol_surj (y : Fin 4352) : ∃ x, keyCol x = y := by
  by_cases hy : y.val < 256
  · exact ⟨.inl ⟨y.val, hy⟩, rfl⟩
  · exact ⟨.inr ⟨y.val - 256, by omega⟩, Fin.ext (by simp only [keyCol]; omega)⟩

theorem row_lt_top (hf : Finite q k kc sink) (b : Fin 8) (h g : Fin 4) (T : Fin 4096) (y : Fin 4353) :
    val_main_v26 (F := Ideal) q k kc sink (ix5 b h g T y) < (⊤ : EReal) := by
  refine Fin.cases ?_ (fun y => ?_) y
  · rw [row_sink, hf.sink]; exact EReal.coe_lt_top _
  · obtain ⟨x, rfl⟩ := keyCol_surj y
    rw [row_key q k kc sink hf]
    exact scoreE_lt_top _ _

/-- The maximum of a family below +∞ that holds a real number is a real number. -/
theorem fold_max_real {ι : Type} (s : Finset ι) (f : ι → EReal) (i : ι) (hi : i ∈ s) (a : ℝ) (ha : f i = a) (h : ∀ i, f i < ⊤) :
    ∃ M : ℝ, max ⊥ (s.fold max ⊥ f) = M := by
  refine exists_real (a := a) ?_ ?_
  · exact le_max_of_le_right (Finset.le_fold_max _ |>.mpr (Or.inr ⟨i, hi, ha.ge⟩))
  · exact max_lt bot_lt_top (Finset.fold_max_lt _ |>.mpr ⟨bot_lt_top, fun j _ => h j⟩)

/-- A row's maximum is a real number. -/
theorem max_real (hf : Finite q k kc sink) (b : Fin 8) (h g : Fin 4) (T : Fin 4096) :
    ∃ M : ℝ, val_main_v29 (F := Ideal) q k kc sink (ix4 b h g T) = (M : EReal) := by
  have hlt : ∀ i, val_main_v26 (F := Ideal) q k kc sink i < (⊤ : EReal) := by
    intro i
    rw [eq_ix5 i]
    exact row_lt_top q k kc sink hf _ _ _ _ _
  have hsink := (row_sink q k kc sink b h g T).trans (hf.sink (headOf h g))
  have e : val_main_v29 (F := Ideal) q k kc sink (ix4 b h g T) =
      max (Ideal.ofBits .f32 4286578688#32) (val_main_v27 (F := Ideal) q k kc sink (ix4 b h g T)) := by
    rw [val_main_v29_apply, val_main_v28_apply, val_main_cst_3_apply]; rfl
  rw [e, val_main_v27]
  generalize val_main_v26 (F := Ideal) q k kc sink = X at *
  rw [Host.reduce_eq_fold]
  rw [val_main_cst_2_apply]
  refine (congrArg₂ (fun a c => ∃ M : ℝ, max a (Finset.fold max c X _) = (M : EReal)) ofBits_neg_inf ofBits_neg_inf).mpr ?_
  refine fold_max_real _ X (ix5 b h g T 0) ?_ _ hsink hlt
  rw [Finset.mem_filter]
  exact ⟨Finset.mem_univ _, by ext a; fin_cases a <;> rfl⟩

/-- The softmax's weight of a key. -/
theorem prob_apply (hf : Finite q k kc sink) (b : Fin 8) (h g : Fin 4) (T : Fin 4096) (x : Fin 256 ⊕ Fin 4096) :
    val_main_v38 (F := Ideal) q k kc sink (ix5 b h g T (keyCol x)) =
      ((weight (near T x) (score q k kc b T h g x) /
        total (near T) (score q k kc b T h g) (EReal.toReal (sink (ix1 (headOf h g)))) : ℝ) : EReal) := by
  obtain ⟨M, hM⟩ := max_real q k kc sink hf b h g T
  refine Eq.trans ?_ (reference_weight (near T) (score q k kc b T h g) (EReal.toReal (sink (ix1 (headOf h g)))) M x)
  have hx : (⟨1 + (keyCol x).val, by omega⟩ : Fin 4353) = (keyCol x).succ := Fin.ext (by simp; omega)
  have hs : ∑ y, Ideal.exp (val_main_v26 (F := Ideal) q k kc sink (ix5 b h g T y) - (M : EReal)) =
      Ideal.exp (((EReal.toReal (sink (ix1 (headOf h g))) : ℝ) : EReal) - (M : EReal)) +
        ∑ x, Ideal.exp (scoreE (near T x) (score q k kc b T h g x) - (M : EReal)) := by
    rw [Fin.sum_univ_succ, sum_keys]
    refine congrArg₂ (· + ·) ?_ (Finset.sum_congr rfl fun x _ => ?_)
    · rw [row_sink, ← hf.sink]
    · rw [row_key q k kc sink hf]
  pointwise [val_main_v38, val_main_v37, val_main_v36, val_main_v35, val_main_v34, val_main_v33, val_main_v32, val_main_v31,
    val_main_v30, val_main_cst_4]
  rw [hM, hx, row_key q k kc sink hf, hs]

/-- The attention's output at a lane. -/
theorem out_apply (hf : Finite q k kc sink) (b : Fin 8) (T : Fin 4096) (l : Fin 1024) :
    val_main_v42 (F := Ideal) q k v kc vc sink (ix3 b T l) =
      attn (fun b r l => q (ix3 b r l)) (fun b r l => k (ix3 b r l)) (fun b r l => v (ix3 b r l)) (fun b r l => kc (ix3 b r l))
        (fun b r l => vc (ix3 b r l)) (fun h => sink (ix1 h)) b T l := by
  pointwise [val_main_v42, val_main_v41, val_main_v40, val_main_v39, val_main_v2, val_main_v4]
  unfold attn attnAt mix
  rw [Fintype.sum_sum_type]
  refine congrArg₂ (· + ·) (Finset.sum_congr rfl fun x _ => ?_) (Finset.sum_congr rfl fun x _ => ?_)
  · exact congrArg₂ (· * ·) rfl (prob_apply q k kc sink hf b _ _ T (.inl x))
  · exact congrArg₂ (· * ·) rfl (prob_apply q k kc sink hf b _ _ T (.inr x))

theorem stream_apply (hf : Finite q k kc sink) (b : Fin 8) (T : Fin 4096) (l : Fin 1024) :
    val_main_v48 (F := Ideal) q k v kc vc sink sg x mod w (ix3 b T l) =
      stream (attn (fun b r l => q (ix3 b r l)) (fun b r l => k (ix3 b r l)) (fun b r l => v (ix3 b r l))
        (fun b r l => kc (ix3 b r l)) (fun b r l => vc (ix3 b r l)) (fun h => sink (ix1 h))) (fun b r l => sg (ix3 b r l))
        (fun b r l => x (ix3 b r l)) (fun b l => mod (ix3 b 0 l)) (fun r l => w (ix2 r l)) b T l := by
  pointwise [val_main_v48, val_main_v47, val_main_v46, val_main_v45, val_main_v44, val_main_v43]
  simp only [out_apply q k v kc vc sink hf]
  rfl

/-- The reference's result, index by index. -/
theorem result_apply (hf : Finite q k kc sink) (b : Fin 8) (T : Fin 4096) (l : Fin 1024) :
    val_main_v61 (F := Ideal) q k v kc vc sink sg x mod w fg (ix3 b T l) =
      norm (stream (attn (fun b r l => q (ix3 b r l)) (fun b r l => k (ix3 b r l)) (fun b r l => v (ix3 b r l))
        (fun b r l => kc (ix3 b r l)) (fun b r l => vc (ix3 b r l)) (fun h => sink (ix1 h))) (fun b r l => sg (ix3 b r l))
        (fun b r l => x (ix3 b r l)) (fun b l => mod (ix3 b 0 l)) (fun r l => w (ix2 r l)) b T) (fun l => fg (ix1 l)) l := by
  pointwise [val_main_v61, val_main_v60, val_main_v59, val_main_v58, val_main_v57, val_main_v56, val_main_v55, val_main_v54,
    val_main_v53, val_main_v52, val_main_v51, val_main_v50, val_main_v49, val_main_cst_5]
  simp only [stream_apply q k v kc vc sink sg x mod w hf]
  rfl

end

end Cert.Attn.Ref

end
-- ==== Proof.Final.lean ====
/- The precondition's content, and the value claim. -/
module

public import proofs.«01_k».proof.Defs
public import proofs.«01_k».proof.Proof.Whole
public import proofs.«01_k».proof.Proof.Ref
public import proofs.«01_k».proof.Proof.Gen.KernelIdeal.Value

@[expose] public section

set_option maxRecDepth 16384

noncomputable section

namespace Cert.Attn

open Idealize.ShloMosaic Idealize.ShloMosaic.TcCoe Idealize.SL.Sem

/-- An extended real whose absolute value compares below +∞ is a real number. -/
theorem real_of_abs_lt {x : EReal} (h : Ideal.cmp .olt (max x (-x)) (Ideal.ofBits .f32 0x7F800000#32) = 1#1) :
    x = (x.toReal : EReal) := by
  have ht : Ideal.ofBits .f32 0x7F800000#32 = ⊤ := by simp [Ideal.ofBits, Ideal.ieee]
  rw [ht] at h
  have hlt : max x (-x) < ⊤ := by
    by_contra hn
    simp [Ideal.cmp, hn] at h
  induction x with
  | bot => simp at hlt
  | top => simp at hlt
  | coe r => rfl

/-- The broadcasts the precondition takes are well formed. -/
theorem pre_facts : Cert.Pre_finite.Facts where
  bcast_S_S8x4096x1024 := by decide
  bcast_S_S8x4096x256 := by decide
  bcast_S_S8x256x256 := by decide
  bcast_S_S16 := by decide

attribute [local instance] pre_facts

/-- The precondition, of the kernel's arrays. -/
theorem finite_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : Finite m c := by
  obtain ⟨h1, h2, h3, h4⟩ := h c
  exact ⟨fun b r l => real_of_abs_lt (congrFun h1 (ix3 b r l)), fun b r l => real_of_abs_lt (congrFun h2 (ix3 b r l)),
    fun b r l => real_of_abs_lt (congrFun h3 (ix3 b r l)), fun h => real_of_abs_lt (congrFun h4 (ix1 h))⟩

/-- Both idealized programs leave the same result from the same arguments. -/
theorem values_agree : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hagree
  refine ⟨fun c => fun i : Cert.KernelIdeal.S8x4096x1024.Idx => result m c (i 0) (i 1) (i 2), ?_, ?_⟩
  · refine (θ_run Cert.KernelIdeal.defs _ _).mono (fun r h c => ⟨(h c).1.trans (array_eq m c (finite_of_pre m hpre c)), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨a0, a1, a2, a3, a4, a5, a6, a7, a8, a9, a10⟩ := hagree c
    have hf := finite_of_pre m hpre c
    rw [Cert.ReferenceIdeal.Read.val_main_v61_eq, a0, a1, a2, a3, a4, a5, a6, a7, a8, a9, a10]
    funext i
    refine (congrArg _ (eq_ix3 i)).trans ?_
    exact Ref.result_apply _ _ _ _ _ _ _ _ _ _ _ ⟨hf.q, hf.k, hf.kc, hf.sink⟩ (i 0) (i 1) (i 2)

end Cert.Attn

end
-- ==== Proof.InCSpec.lean ====
/- The projection call's mathematics: modulated norm, projection, rotary position embedding, and the gate's silu. -/
module

public import Idealize.ShloMosaic.Lib.Pointwise

@[expose] public section

noncomputable section

namespace Cert.InC

open Idealize.ShloMosaic

/-- A row of the modulated norm: the row over the root of its mean square, times the scale, modulated. -/
def hid (x : Fin 1024 → EReal) (md : Fin 3072 → EReal) (g : Fin 1024 → EReal) (k : Fin 1024) : EReal :=
  x k * Ideal.rsqrt (Ideal.div (∑ j, x j * x j) (Ideal.ofBits .f32 0x44800000#32) + Ideal.ofBits .f32 0x358637BD#32) * g k
    * (1 + md ⟨1024 + k.val, by omega⟩) + md ⟨k.val, by omega⟩

/-- A row of the projection. -/
def proj (x : Fin 1024 → EReal) (md : Fin 3072 → EReal) (g : Fin 1024 → EReal) (w : Fin 1024 → Fin 2560 → EReal)
    (n : Fin 2560) : EReal :=
  ∑ k, hid x md g k * w k n

/-- The angle of coordinate `p` at frequency `f`. -/
def angle (p : ℕ) (f : Fin 16) : EReal :=
  FloatOps.sitofp (F := Ideal) FTy.f32 (BitVec.ofNat 32 p) * Ideal.pow (Ideal.ofBits .f32 0x461C4000#32)
    (Ideal.div (-FloatOps.sitofp (F := Ideal) FTy.f32 (BitVec.ofNat 32 f.val)) (Ideal.ofBits .f32 0x41800000#32))

/-- The angle of a lane of a head at a position. -/
def laneAngle (r : Fin 4096) (l : Fin 128) : EReal :=
  if l.val % 64 < 32 then angle (r.val / 64) ⟨l.val % 16, by omega⟩ else angle (r.val % 64) ⟨l.val % 16, by omega⟩

/-- The rotary embedding of one head's 64 lanes: the first half turned by the row's angles, the second by the column's, each
    half's lanes taken as 16 pairs. -/
def rope (z : Fin 64 → EReal) (row col : Fin 16 → EReal) (e : Fin 64) : EReal :=
  let a := if e.val < 32 then row ⟨e.val % 16, by omega⟩ else col ⟨e.val % 16, by omega⟩
  if h : e.val % 32 < 16 then z e * Ideal.cos a - z ⟨e.val + 16, by omega⟩ * Ideal.sin a
  else z e * Ideal.cos a + z ⟨e.val - 16, by omega⟩ * Ideal.sin a

/-- The queries: turned, and divided by 8 log 2, which is log 256. -/
def outQ (z : Fin 2560 → EReal) (r : Fin 4096) (l : Fin 1024) : EReal :=
  rope (fun e => z ⟨l.val / 64 * 64 + e.val, by omega⟩) (angle (r.val / 64)) (angle (r.val % 64)) ⟨l.val % 64, by omega⟩
    * (((Real.log 256)⁻¹ : ℝ) : EReal)
/-- The keys: turned, every head twice. -/
def outK (z : Fin 2560 → EReal) (r : Fin 4096) (l : Fin 512) : EReal :=
  rope (fun e => z ⟨1024 + l.val / 128 * 64 + e.val, by omega⟩) (angle (r.val / 64)) (angle (r.val % 64)) ⟨l.val % 64, by omega⟩
/-- The values. -/
def outV (z : Fin 2560 → EReal) (f : Fin 256) : EReal := z ⟨1280 + f.val, by omega⟩
/-- The gate. -/
def outG (z : Fin 2560 → EReal) (l : Fin 1024) : EReal :=
  z ⟨1536 + l.val, by omega⟩ * Ideal.div 1 (1 + Ideal.exp (-z ⟨1536 + l.val, by omega⟩))

end Cert.InC

end
-- ==== Proof.InCPoint.lean ====
/- What a grid point of the projection call stores, index by index. -/
module

public import proofs.«01_k».proof.Proof.InCSpec
public import proofs.«01_k».proof.Proof.Gen.Kernel2Ideal.Frame

@[expose] public section

set_option maxRecDepth 16384

noncomputable section

namespace Cert.InC

open Idealize.ShloMosaic Idealize.ShloMosaic.TcCoe Idealize.SL.Sem Cert.Kernel2Ideal Cert.Kernel2Ideal.Gen

theorem pay4_apply (v0 : Vec Ideal S1x1024x1024 .f32) (v2 : Vec Ideal S1x1x3072 .f32) (v4 : Vec Ideal S1x1024 .f32)
    (v27 : Vec Ideal S1024x2560 .bf16) (r : Fin 1024) (n : Fin 2560) :
    k0_pay4 (F := Ideal) v0 v2 v4 v27 (ix2 r n) =
      proj (fun k => v0 (ix3 0 r k)) (fun l => v2 (ix3 0 0 l)) (fun k => v4 (ix2 0 k)) (fun k n => v27 (ix2 k n)) n := by
  pointwise [k0_pay4]
  rfl

/-- A stretch of 128 lanes (two heads), turned by the tables. -/
def turn (t cs sn : FVec Ideal S1024x128 .f32) (msk : IVec S1024x128 1) : FVec Ideal S1024x128 .f32 :=
  addf (mulf t cs) (mulf (select msk (dynamicRotate 1 112#32 none t rotates_S1024x128_d1)
    (dynamicRotate 1 16#32 none t rotates_S1024x128_d1)) sn)

theorem turn_apply (t cs sn : FVec Ideal S1024x128 .f32) (msk : IVec S1024x128 1) (r : Fin 1024) (l : Fin 128) :
    turn t cs sn msk (ix2 r l) = t (ix2 r l) * cs (ix2 r l) +
      (if msk (ix2 r l) = 1#1 then t (ix2 r ⟨(l.val + 16) % 128, by omega⟩) else t (ix2 r ⟨(l.val + 112) % 128, by omega⟩))
        * sn (ix2 r l) := by
  pointwise [turn]
  have h1 : (l.val + 128 - 112) % 128 = (l.val + 16) % 128 := by omega
  have h2 : (l.val + 128 - 16) % 128 = (l.val + 112) % 128 := by omega
  simp only [Scalar.select, h1, h2]
  rfl

/-- Whether a lane is the first of its pair. -/
theorem mask_apply (r : Fin 1024) (l : Fin 128) :
    k0_pay7 (iota .tc S1024x128 32 [1] iota_S1024x128_d1_w32) 32#32 (Scalar.cmpi .eq 32#32 0#32) 1#32 (ix2 r l) =
      if l.val % 32 < 16 then 1#1 else 0#1 := by
  pointwise [k0_pay7]
  revert l
  decide +kernel

/-- Whether a lane is of the first of its stretch's two heads. -/
theorem head_apply (r : Fin 1024) (l : Fin 128) :
    k0_pay18 (iota .tc S1024x128 32 [1] iota_S1024x128_d1_w32) (ix2 r l) = if l.val < 64 then 1#1 else 0#1 := by
  pointwise [k0_pay18]
  revert l
  decide +kernel

/-- A stretch of 128 lanes of the projection. -/
def lanes (o : ℕ) (ho : o + 128 ≤ 2560) (z : FVec Ideal S1024x2560 .f32) : FVec Ideal S1024x128 .f32 :=
  extractStridedSlice S1024x128 ![0, o] z ⟨rfl, by intro a; fin_cases a <;> simp [Shape.size] <;> omega⟩

theorem lanes_apply (o : ℕ) (ho : o + 128 ≤ 2560) (z : FVec Ideal S1024x2560 .f32) (r : Fin 1024) (l : Fin 128) :
    lanes o ho z (ix2 r l) = z (ix2 r ⟨o + l.val, by omega⟩) := by
  unfold lanes
  pointwise []

/-- What is stored for two of the queries' heads. -/
def qPiece (u : FVec Ideal S1024x128 .f32) : FVec Ideal S1x1024x128 .bf16 :=
  shapeCast S1x1024x128 (truncf .bf16 (mulf u (broadcast S1024x128 (Named.named κ "qscale" 0x3E38AA3B#32))) bitsLt_bf16_f32)
    shapeCasts_S1024x128_S1x1024x128

/-- What is stored for the first or the second of two of the keys' heads: the head twice. -/
def kPiece (second : Bool) (u : FVec Ideal S1024x128 .f32) (hd : IVec S1024x128 1) : FVec Ideal S1x1024x128 .bf16 :=
  shapeCast S1x1024x128 (truncf .bf16 (match second with
    | false => select hd u (dynamicRotate 1 64#32 none u rotates_S1024x128_d1)
    | true => select hd (dynamicRotate 1 64#32 none u rotates_S1024x128_d1) u) bitsLt_bf16_f32)
    shapeCasts_S1024x128_S1x1024x128

theorem qPiece_apply (u : FVec Ideal S1024x128 .f32) (r : Fin 1024) (l : Fin 128) :
    qPiece u (ix3 0 r l) = u (ix2 r l) * (((Real.log 256)⁻¹ : ℝ) : EReal) := by
  pointwise [qPiece]
  rfl

theorem kPiece_apply (second : Bool) (u : FVec Ideal S1024x128 .f32) (hd : IVec S1024x128 1) (r : Fin 1024) (l : Fin 128)
    (hh : hd (ix2 r l) = if l.val < 64 then 1#1 else 0#1) :
    kPiece second u hd (ix3 0 r l) = u (ix2 r ⟨(if second then 64 else 0) + l.val % 64, by split <;> omega⟩) := by
  cases second
  · pointwise [kPiece]
    rw [hh]
    unfold Scalar.select
    split_ifs <;> first | contradiction | exact congrArg u (congrArg _ (Fin.ext (by simp <;> omega)))
  · pointwise [kPiece]
    rw [hh]
    unfold Scalar.select
    split_ifs <;> first | contradiction | exact congrArg u (congrArg _ (Fin.ext (by simp <;> omega)))

/-- Two heads turned at a position. -/
theorem turn_rope (o : ℕ) (ho : o + 128 ≤ 2560) (z : FVec Ideal S1024x2560 .f32) (cs sn : FVec Ideal S1024x128 .f32)
    (msk : IVec S1024x128 1) (r : Fin 1024) (p : Fin 4096)
    (hc : ∀ l, cs (ix2 r l) = Ideal.cos (laneAngle p l))
    (hs : ∀ l : Fin 128, sn (ix2 r l) = if l.val % 32 < 16 then -Ideal.sin (laneAngle p l) else Ideal.sin (laneAngle p l))
    (hm : ∀ l : Fin 128, msk (ix2 r l) = if l.val % 32 < 16 then 1#1 else 0#1) (l : Fin 128) :
    turn (lanes o ho z) cs sn msk (ix2 r l) =
      rope (fun e => z (ix2 r ⟨o + l.val / 64 * 64 + e.val, by omega⟩)) (angle (p.val / 64)) (angle (p.val % 64))
        ⟨l.val % 64, by omega⟩ := by
  rw [turn_apply, hc, hs, hm, lanes_apply, lanes_apply, lanes_apply]
  have ha : laneAngle p l = if l.val % 64 < 32 then angle (p.val / 64) ⟨l.val % 64 % 16, by omega⟩
      else angle (p.val % 64) ⟨l.val % 64 % 16, by omega⟩ := by
    unfold laneAngle
    split <;> exact congrArg _ (Fin.ext (by dsimp only; omega))
  rw [ha]
  unfold rope
  dsimp only
  have h32 : l.val % 64 % 32 = l.val % 32 := by omega
  have e0 : (⟨o + l.val, by omega⟩ : Fin 2560) = ⟨o + l.val / 64 * 64 + l.val % 64, by omega⟩ :=
    Fin.ext (by dsimp only; omega)
  by_cases h : l.val % 32 < 16
  · have e1 : (⟨o + (l.val + 16) % 128, by omega⟩ : Fin 2560) = ⟨o + l.val / 64 * 64 + (l.val % 64 + 16), by omega⟩ :=
      Fin.ext (by dsimp only; omega)
    rw [if_pos h, if_pos h, if_pos (rfl : (1#1 : BitVec 1) = 1#1), dif_pos (by omega), mul_neg, ← sub_eq_add_neg, e0, e1]
  · have e1 : (⟨o + (l.val + 112) % 128, by omega⟩ : Fin 2560) = ⟨o + l.val / 64 * 64 + (l.val % 64 - 16), by omega⟩ :=
      Fin.ext (by dsimp only; omega)
    rw [if_neg h, if_neg h, if_neg (by decide : ¬ (0#1 : BitVec 1) = 1#1), dif_neg (by omega), e0, e1]

end Cert.InC

end
-- ==== Proof.InCBlocks.lean ====
/- The blocks a grid point of the projection call reads, at an index, as the arguments. -/
module

public import proofs.«01_k».proof.Proof.InCSpec
public import proofs.«01_k».proof.Proof.Gen.Kernel2Ideal.Frame
public import Idealize.ShloMosaic.Lib.Pointwise
public import Idealize.ShloMosaic.Lib.Pipeline.ValueKit.Point
public import Idealize.ShloMosaic.Lib.StableHlo.RunRead

@[expose] public section

set_option maxRecDepth 16384

noncomputable section

namespace Cert.InC

open Idealize.ShloMosaic Idealize.ShloMosaic.TcCoe Idealize.SL.Sem Cert.Kernel2Ideal Cert.Kernel2Ideal.Gen

variable (m : (ℓ : Loc nD τ sig) → Buf (Elt Ideal) ℓ) (c : Dev nD) (t : Fin cfg0.N)

/-- The batch of a grid point. -/
def bOf (t : Fin cfg0.N) : Fin 8 := grid0.coords t 0
/-- The stretch of 1024 rows of a grid point. -/
def nOf (t : Fin cfg0.N) : Fin 4 := grid0.coords t 1
/-- The position of a grid point's row. -/
def posOf (t : Fin cfg0.N) (r : Fin 1024) : Fin 4096 := ⟨(nOf t).val * 1024 + r.val, by have := (nOf t).isLt; omega⟩

/-! ## The arguments -/

/-- The residual stream. -/
def argX (b : Fin 8) (r : Fin 4096) (l : Fin 1024) : EReal := m ((c : Thread nD τ).loc main_arg0) (ix3 b r l)
/-- The modulation. -/
def argMod (b : Fin 16) (l : Fin 3072) : EReal := m ((c : Thread nD τ).loc main_arg1) (ix3 b 0 l)
/-- The norm's scale. -/
def argG (l : Fin 1024) : EReal := m ((c : Thread nD τ).loc main_arg2) (ix1 l)
/-- The projection's weights. -/
def argW (k : Fin 1024) (n : Fin 2560) : EReal := m ((c : Thread nD τ).loc main_arg3) (ix2 k n)

/-! ## The arrays the host prepares -/

theorem V_g (l : Fin 1024) : V m c main_v35 (ix2 0 l) = argG m c l := by
  entry_read
  pointwise [argG]

theorem V_w (k : Fin 1024) (n : Fin 2560) : V m c main_v36 (ix2 k n) = argW m c k n := by
  entry_read
  rfl

/-- The rows' angles. -/
theorem V_row (r : Fin 4096) (f : Fin 16) : V m c main_v19 (ix2 r f) = angle (r.val / 64) f := by
  entry_read
  pointwise []
  rfl

/-- The columns' angles. -/
theorem V_col (r : Fin 4096) (f : Fin 16) : V m c main_v24 (ix2 r f) = angle (r.val % 64) f := by
  entry_read
  pointwise []
  rfl

/-- The table of the rows' angles. -/
def rowTab : FVec Ideal S4096x16 .f32 := V m c main_v19
/-- The table of the columns' angles. -/
def colTab : FVec Ideal S4096x16 .f32 := V m c main_v24

theorem rowTab_apply (r : Fin 4096) (f : Fin 16) : rowTab m c (ix2 r f) = angle (r.val / 64) f := V_row m c r f
theorem colTab_apply (r : Fin 4096) (f : Fin 16) : colTab m c (ix2 r f) = angle (r.val % 64) f := V_col m c r f

/-- Sixteen-lane tables side by side, twice over. -/
def wide (a b c d : FVec Ideal S4096x16 .f32) : FVec Ideal S4096x128 .f32 :=
  concatenate S4096x128 1 [
    ⟨S4096x64, concatenate S4096x64 1 [⟨S4096x16, a⟩, ⟨S4096x16, b⟩, ⟨S4096x16, c⟩, ⟨S4096x16, d⟩]
      concatenates_S4096x16_S4096x16_S4096x16_S4096x16_S4096x64_d1⟩,
    ⟨S4096x64, concatenate S4096x64 1 [⟨S4096x16, a⟩, ⟨S4096x16, b⟩, ⟨S4096x16, c⟩, ⟨S4096x16, d⟩]
      concatenates_S4096x16_S4096x16_S4096x16_S4096x16_S4096x64_d1⟩]
    concatenates_S4096x64_S4096x64_S4096x128_d1

theorem wide_apply (a b c d : FVec Ideal S4096x16 .f32) (r : Fin 4096) (l : Fin 128) :
    wide a b c d (ix2 r l) =
      if l.val % 64 < 16 then a (ix2 r ⟨l.val % 16, by omega⟩) else if l.val % 64 < 32 then b (ix2 r ⟨l.val % 16, by omega⟩)
      else if l.val % 64 < 48 then c (ix2 r ⟨l.val % 16, by omega⟩) else d (ix2 r ⟨l.val % 16, by omega⟩) := by
  pointwise [wide]
  repeat' split
  all_goals first | omega | exact congrArg _ (congrArg _ (Fin.ext (by dsimp only <;> omega)))

theorem cos_at (a b : FVec Ideal S4096x16 .f32) (r : Fin 4096) (l : Fin 128) (h : ∀ f, a (ix2 r f) = angle (r.val / 64) f)
    (h' : ∀ f, b (ix2 r f) = angle (r.val % 64) f) :
    wide (Host.cos a) (Host.cos a) (Host.cos b) (Host.cos b) (ix2 r l) = Ideal.cos (laneAngle r l) := by
  rw [wide_apply, laneAngle]
  simp only [Host.cos, ← h, ← h']
  repeat' split
  all_goals first | omega | rfl

theorem sin_at (a b : FVec Ideal S4096x16 .f32) (r : Fin 4096) (l : Fin 128) (h : ∀ f, a (ix2 r f) = angle (r.val / 64) f)
    (h' : ∀ f, b (ix2 r f) = angle (r.val % 64) f) :
    wide (Host.negf (Host.sin a)) (Host.sin a) (Host.negf (Host.sin b)) (Host.sin b) (ix2 r l) =
      if l.val % 32 < 16 then -Ideal.sin (laneAngle r l) else Ideal.sin (laneAngle r l) := by
  rw [wide_apply, laneAngle]
  simp only [Host.sin, Host.negf, ← h, ← h']
  repeat' split
  all_goals first | omega | rfl

/-- The table of cosines. -/
theorem V_cos (r : Fin 4096) (l : Fin 128) : V m c main_v33 (ix2 r l) = Ideal.cos (laneAngle r l) := by
  have h : V m c main_v33 = wide (Host.cos (rowTab m c)) (Host.cos (rowTab m c))
    (Host.cos (colTab m c)) (Host.cos (colTab m c)) := by
    unfold rowTab colTab V hostOps0
    after_reads_simp
    rfl
  exact (congrFun h _).trans (cos_at (rowTab m c) (colTab m c) r l (rowTab_apply m c r) (colTab_apply m c r))

/-- The table of sines, negative on the first lane of a pair. -/
theorem V_sin (r : Fin 4096) (l : Fin 128) : V m c main_v34 (ix2 r l) =
    if l.val % 32 < 16 then -Ideal.sin (laneAngle r l) else Ideal.sin (laneAngle r l) := by
  have h : V m c main_v34 = wide (Host.negf (Host.sin (rowTab m c))) (Host.sin (rowTab m c))
    (Host.negf (Host.sin (colTab m c))) (Host.sin (colTab m c)) := by
    unfold rowTab colTab V hostOps0
    after_reads_simp
    rfl
  exact (congrFun h _).trans (sin_at (rowTab m c) (colTab m c) r l (rowTab_apply m c r) (colTab_apply m c r))

/-! ## The windows -/

theorem index_facts : ∀ t : Fin cfg0.N,
    win0_0.index t = ![(bOf t).val, (nOf t).val, 0] ∧ win0_1.index t = ![(bOf t).val, 0, 0] ∧
    win0_2.index t = ![0, 0] ∧ win0_3.index t = ![0, 0] ∧ win0_4.index t = ![(nOf t).val, 0] ∧
    win0_5.index t = ![(nOf t).val, 0] ∧ win0_6.index t = ![(bOf t).val, (nOf t).val, 0] ∧
    win0_7.index t = ![(bOf t).val, (nOf t).val, 0] ∧ win0_8.index t = ![(bOf t).val, 0, (nOf t).val] ∧
    win0_9.index t = ![(bOf t).val, (nOf t).val, 0] :=
  (by decide +kernel : ∀ t : Fin grid0.N, _)

theorem read0 (X : Buf (Elt Ideal) ((c : Thread nD τ).loc main_arg0)) (r : Fin 1024) (l : Fin 1024) :
    ((cfg0.win 0).blk t).view.read (Elt Ideal) X (ix3 0 r l) = X (ix3 (bOf t) (posOf t r) l) := by
  have h := (index_facts t).1
  unfold posOf
  blk_ext [h]
theorem blk0 (r : Fin 1024) (l : Fin 1024) : iblk m c 0 t (ix3 0 r l) = argX m c (bOf t) (posOf t r) l :=
  (read0 c t (V m c main_arg0) r l).trans (by entry_read; rfl)

theorem read1 (X : Buf (Elt Ideal) ((c : Thread nD τ).loc main_arg1)) (l : Fin 3072) :
    ((cfg0.win 1).blk t).view.read (Elt Ideal) X (ix3 0 0 l) = X (ix3 ⟨(bOf t).val, by have := (bOf t).isLt; omega⟩ 0 l) := by
  have h := (index_facts t).2.1
  blk_ext [h]
theorem blk1 (l : Fin 3072) :
    iblk m c 1 t (ix3 0 0 l) = argMod m c ⟨(bOf t).val, by have := (bOf t).isLt; omega⟩ l :=
  (read1 c t (V m c main_arg1) l).trans (by entry_read; rfl)

theorem read2 (X : Buf (Elt Ideal) ((c : Thread nD τ).loc main_v35)) (l : Fin 1024) :
    ((cfg0.win 2).blk t).view.read (Elt Ideal) X (ix2 0 l) = X (ix2 0 l) := by
  have h := (index_facts t).2.2.1
  blk_ext [h]
theorem blk2 (l : Fin 1024) : iblk m c 2 t (ix2 0 l) = argG m c l :=
  (read2 c t (V m c main_v35) l).trans (V_g m c l)

theorem read3 (X : Buf (Elt Ideal) ((c : Thread nD τ).loc main_v36)) (k : Fin 1024) (n : Fin 2560) :
    ((cfg0.win 3).blk t).view.read (Elt Ideal) X (ix2 k n) = X (ix2 k n) := by
  have h := (index_facts t).2.2.2.1
  blk_ext [h]
theorem blk3 (k : Fin 1024) (n : Fin 2560) : iblk m c 3 t (ix2 k n) = argW m c k n :=
  (read3 c t (V m c main_v36) k n).trans (V_w m c k n)

theorem read4 (X : Buf (Elt Ideal) ((c : Thread nD τ).loc main_v33)) (r : Fin 1024) (l : Fin 128) :
    ((cfg0.win 4).blk t).view.read (Elt Ideal) X (ix2 r l) = X (ix2 (posOf t r) l) := by
  have h := (index_facts t).2.2.2.2.1
  unfold posOf
  blk_ext [h]
theorem blk4 (r : Fin 1024) (l : Fin 128) : iblk m c 4 t (ix2 r l) = Ideal.cos (laneAngle (posOf t r) l) :=
  (read4 c t (V m c main_v33) r l).trans (V_cos m c (posOf t r) l)

theorem read5 (X : Buf (Elt Ideal) ((c : Thread nD τ).loc main_v34)) (r : Fin 1024) (l : Fin 128) :
    ((cfg0.win 5).blk t).view.read (Elt Ideal) X (ix2 r l) = X (ix2 (posOf t r) l) := by
  have h := (index_facts t).2.2.2.2.2.1
  unfold posOf
  blk_ext [h]
theorem blk5 (r : Fin 1024) (l : Fin 128) : iblk m c 5 t (ix2 r l) =
    if l.val % 32 < 16 then -Ideal.sin (laneAngle (posOf t r) l) else Ideal.sin (laneAngle (posOf t r) l) :=
  (read5 c t (V m c main_v34) r l).trans (V_sin m c (posOf t r) l)

end Cert.InC

end
-- ==== Proof.InCWhole.lean ====
/- The projection call's result arrays after the run. -/
module

public import proofs.«01_k».proof.Proof.InCPoint
public import proofs.«01_k».proof.Proof.InCBlocks

@[expose] public section

set_option maxRecDepth 16384

noncomputable section

namespace Cert.InC

open Idealize.ShloMosaic Idealize.ShloMosaic.TcCoe Idealize.SL.Sem Cert.Kernel2Ideal Cert.Kernel2Ideal.Gen

/-! ## A block stored in stretches of 128 lanes, read at an index -/

theorem q_tiles (a : Fin 8 → FVec Ideal S1x1024x128 .bf16) (G : S1x1024x1024.Idx → EReal)
    (h : ∀ (k : Fin 8) (r : Fin 1024) (l : Fin 128), a k (ix3 0 r l) = G (ix3 0 r ⟨k.val * 128 + l.val, by omega⟩))
    (y : S1x1024x1024.Idx) :
    View.canon (Val := Elt Ideal) (s := S1x1024x1024) (e := .bf16) [⟨r0_12, a 7⟩, ⟨r0_11, a 6⟩, ⟨r0_10, a 5⟩, ⟨r0_9, a 4⟩,
      ⟨r0_8, a 3⟩, ⟨r0_7, a 2⟩, ⟨r0_6, a 1⟩, ⟨r0_5, a 0⟩] y = G y := by
  have key : ∀ (k : Fin 8) (x : S1x1024x128.Idx), a k x = G (ix3 0 (x 1) ⟨k.val * 128 + (x 2).val, by
      have : (x 2).val < 128 := (x 2).isLt
      omega⟩) := fun k x => (congrArg (a k) (show x = ix3 (0 : Fin 1) (x 1) (x 2) by ext b; fin_cases b <;> simp <;> omega)).trans
    (h k (x 1) (x 2))
  canon_tiles x hx <;> refine (key _ x).trans (congrArg G ?_) <;> (ext b; fin_cases b <;> simp <;> omega)

theorem k_tiles (a : Fin 4 → FVec Ideal S1x1024x128 .bf16) (G : S1x1024x512.Idx → EReal)
    (h : ∀ (k : Fin 4) (r : Fin 1024) (l : Fin 128), a k (ix3 0 r l) = G (ix3 0 r ⟨k.val * 128 + l.val, by omega⟩))
    (y : S1x1024x512.Idx) :
    View.canon (Val := Elt Ideal) (s := S1x1024x512) (e := .bf16) [⟨r0_16, a 3⟩, ⟨r0_15, a 2⟩, ⟨r0_14, a 1⟩, ⟨r0_13, a 0⟩] y =
      G y := by
  have key : ∀ (k : Fin 4) (x : S1x1024x128.Idx), a k x = G (ix3 0 (x 1) ⟨k.val * 128 + (x 2).val, by
      have : (x 2).val < 128 := (x 2).isLt
      omega⟩) := fun k x => (congrArg (a k) (show x = ix3 (0 : Fin 1) (x 1) (x 2) by ext b; fin_cases b <;> simp <;> omega)).trans
    (h k (x 1) (x 2))
  canon_tiles x hx <;> refine (key _ x).trans (congrArg G ?_) <;> (ext b; fin_cases b <;> simp <;> omega)

theorem v_tile (a : FVec Ideal S1x256x1024 .bf16) (G : S1x256x1024.Idx → EReal)
    (h : ∀ (f : Fin 256) (r : Fin 1024), a (ix3 0 f r) = G (ix3 0 f r)) (y : S1x256x1024.Idx) :
    View.canon (Val := Elt Ideal) (s := S1x256x1024) (e := .bf16) [⟨r0_17, a⟩] y = G y := by
  canon_tiles x hx
  exact (congrArg a (show x = ix3 (0 : Fin 1) (x 1) (x 2) by ext b; fin_cases b <;> simp <;> omega)).trans
    ((h (x 1) (x 2)).trans (congrArg G (by ext b; fin_cases b <;> simp <;> omega)))

theorem g_tile (a : FVec Ideal S1x1024x1024 .bf16) (G : S1x1024x1024.Idx → EReal)
    (h : ∀ (r : Fin 1024) (l : Fin 1024), a (ix3 0 r l) = G (ix3 0 r l)) (y : S1x1024x1024.Idx) :
    View.canon (Val := Elt Ideal) (s := S1x1024x1024) (e := .bf16) [⟨r0_0, a⟩] y = G y := by
  canon_tiles x hx
  exact (congrArg a (show x = ix3 (0 : Fin 1) (x 1) (x 2) by ext b; fin_cases b <;> simp <;> omega)).trans
    ((h (x 1) (x 2)).trans (congrArg G (by ext b; fin_cases b <;> simp <;> omega)))

/-! ## The values and the gate, of a projection -/

theorem vPiece_apply (z : FVec Ideal S1024x2560 .f32) (f : Fin 256) (r : Fin 1024) :
    k0_pay2 (F := Ideal) z (ix3 0 f r) = z (ix2 r ⟨1280 + f.val, by omega⟩) := by
  pointwise [k0_pay2]

theorem gPiece_apply (z : FVec Ideal S1024x2560 .f32) (r : Fin 1024) (l : Fin 1024) :
    k0_pay3 (F := Ideal) z (ix3 0 r l) = outG (fun n => z (ix2 r n)) l := by
  pointwise [k0_pay3, outG]
  rw [zero_sub]

/-! ## What a grid point stores, as these pieces -/

section
variable (x0 : Vec Ideal S1x1024x1024 .f32) (x1 : Vec Ideal S1x1x3072 .f32) (x2 : Vec Ideal S1x1024 .f32)
  (x3 : Vec Ideal S1024x2560 .bf16) (x4 x5 : Vec Ideal S1024x128 .f32)

/-- Two heads of the projection, turned. -/
def turned (o : ℕ) (ho : o + 128 ≤ 2560) : FVec Ideal S1024x128 .f32 :=
  turn (lanes o ho (k0_pay27 x0 x1 x2 x3 x4 x5)) (k0_pay28 x0 x1 x2 x3 x4 x5) (k0_pay29 x0 x1 x2 x3 x4 x5)
    (k0_pay30 x0 x1 x2 x3 x4 x5)

/-- The stretches of the queries' block. -/
def qAt (k : Fin 8) : FVec Ideal S1x1024x128 .bf16 := qPiece (turned x0 x1 x2 x3 x4 x5 (k.val * 128) (by omega))
/-- The stretches of the keys' block. -/
def kAt (k : Fin 4) : FVec Ideal S1x1024x128 .bf16 :=
  kPiece (decide (k.val % 2 = 1)) (turned x0 x1 x2 x3 x4 x5 (1024 + k.val / 2 * 128) (by omega))
    (k0_pay18 (k0_pay26 x0 x1 x2 x3 x4 x5))

theorem out6_eq : out0_6 x0 x1 x2 x3 x4 x5 = View.canon [⟨r0_12, qAt x0 x1 x2 x3 x4 x5 7⟩, ⟨r0_11, qAt x0 x1 x2 x3 x4 x5 6⟩,
    ⟨r0_10, qAt x0 x1 x2 x3 x4 x5 5⟩, ⟨r0_9, qAt x0 x1 x2 x3 x4 x5 4⟩, ⟨r0_8, qAt x0 x1 x2 x3 x4 x5 3⟩,
    ⟨r0_7, qAt x0 x1 x2 x3 x4 x5 2⟩, ⟨r0_6, qAt x0 x1 x2 x3 x4 x5 1⟩, ⟨r0_5, qAt x0 x1 x2 x3 x4 x5 0⟩] := rfl

theorem out7_eq : out0_7 x0 x1 x2 x3 x4 x5 = View.canon [⟨r0_16, kAt x0 x1 x2 x3 x4 x5 3⟩, ⟨r0_15, kAt x0 x1 x2 x3 x4 x5 2⟩,
    ⟨r0_14, kAt x0 x1 x2 x3 x4 x5 1⟩, ⟨r0_13, kAt x0 x1 x2 x3 x4 x5 0⟩] := rfl

theorem z_apply (r : Fin 1024) (n : Fin 2560) : k0_pay27 x0 x1 x2 x3 x4 x5 (ix2 r n) =
    proj (fun k => x0 (ix3 0 r k)) (fun l => x1 (ix3 0 0 l)) (fun k => x2 (ix2 0 k)) (fun k n => x3 (ix2 k n)) n := by
  unfold k0_pay27
  rw [pay4_apply]
  have h0 : ∀ k : Fin 1024, View.ld x0 r0_0 (ix3 0 r k) = x0 (ix3 0 r k) := fun k => by pointwise []
  have h1 : ∀ l : Fin 3072, View.ld x1 r0_1 (ix3 0 0 l) = x1 (ix3 0 0 l) := fun l => by pointwise []
  have h2 : ∀ k : Fin 1024, View.ld x2 r0_2 (ix2 0 k) = x2 (ix2 0 k) := fun k => by pointwise []
  have h3 : ∀ (k : Fin 1024) (n : Fin 2560), View.ld x3 r0_3 (ix2 k n) = x3 (ix2 k n) := fun k n => by pointwise []
  simp only [h0, h1, h2, h3]

theorem cs_apply (r : Fin 1024) (l : Fin 128) : k0_pay28 x0 x1 x2 x3 x4 x5 (ix2 r l) = x4 (ix2 r l) := by
  pointwise [k0_pay28, k0_pay5]

theorem sn_apply (r : Fin 1024) (l : Fin 128) : k0_pay29 x0 x1 x2 x3 x4 x5 (ix2 r l) = x5 (ix2 r l) := by
  pointwise [k0_pay29, k0_pay6]

end

/-! ## The arrays -/

section
variable (m : (ℓ : Loc nD τ sig) → Buf (Elt Ideal) ℓ) (c : Dev nD)

/-- A row of the projection, of the arguments. -/
def rowOf (b : Fin 8) (p : Fin 4096) : Fin 2560 → EReal :=
  proj (argX m c b p) (argMod m c ⟨b.val, by omega⟩) (argG m c) (argW m c)

theorem row_apply (t : Fin cfg0.N) (r : Fin 1024) (n : Fin 2560) :
    k0_pay27 (iblk m c 0 t) (iblk m c 1 t) (iblk m c 2 t) (iblk m c 3 t) (iblk m c 4 t) (iblk m c 5 t) (ix2 r n) =
      rowOf m c (bOf t) (posOf t r) n := by
  refine (z_apply _ _ _ _ _ _ r n).trans ?_
  unfold rowOf
  congr 1
  · exact funext fun k => blk0 m c t r k
  · exact funext fun l => blk1 m c t l
  · exact funext fun k => blk2 m c t k
  · exact funext fun k => funext fun n => blk3 m c t k n

theorem turned_apply (t : Fin cfg0.N) (o : ℕ) (ho : o + 128 ≤ 2560) (r : Fin 1024) (l : Fin 128) :
    turned (iblk m c 0 t) (iblk m c 1 t) (iblk m c 2 t) (iblk m c 3 t) (iblk m c 4 t) (iblk m c 5 t) o ho (ix2 r l) =
      rope (fun e => rowOf m c (bOf t) (posOf t r) ⟨o + l.val / 64 * 64 + e.val, by omega⟩) (angle ((posOf t r).val / 64))
        (angle ((posOf t r).val % 64)) ⟨l.val % 64, by omega⟩ := by
  refine (turn_rope o ho _ _ _ _ r (posOf t r) (fun l => (cs_apply _ _ _ _ _ _ r l).trans (blk4 m c t r l))
    (fun l => (sn_apply _ _ _ _ _ _ r l).trans (blk5 m c t r l)) (fun l => mask_apply r l) l).trans ?_
  simp only [row_apply]

/-- The queries' array. -/
theorem q_array : (dats m 0 c).arrAt 6 cfg0.N = fun i : S8x4096x1024.Idx => outQ (rowOf m c (i 0) (i 1)) (i 1) (i 2) := by
  refine (dats m 0 c).arrAt_eq_of_covers 6 _ (by decide +kernel) fun t ht y => ?_
  blk_simp
  rw [after0_6, out6_eq]
  have h := (index_facts t).2.2.2.2.2.2.1
  refine q_tiles _ (fun y => outQ (rowOf m c ((win0_6.blk t).view.emb y 0) ((win0_6.blk t).view.emb y 1))
    ((win0_6.blk t).view.emb y 1) ((win0_6.blk t).view.emb y 2)) (fun k r l => ?_) y
  have e0 : (win0_6.blk t).view.emb (ix3 (0 : Fin 1) r (⟨k.val * 128 + l.val, by omega⟩ : Fin 1024)) 0 = bOf t :=
    Fin.ext (by blk_simp [h]; simp)
  have e1 : (win0_6.blk t).view.emb (ix3 (0 : Fin 1) r (⟨k.val * 128 + l.val, by omega⟩ : Fin 1024)) 1 = posOf t r :=
    Fin.ext (by blk_simp [h]; simp [posOf])
  have e2 : (win0_6.blk t).view.emb (ix3 (0 : Fin 1) r (⟨k.val * 128 + l.val, by omega⟩ : Fin 1024)) 2 =
      (⟨k.val * 128 + l.val, by omega⟩ : Fin 1024) := Fin.ext (by blk_simp [h])
  dsimp only
  rw [e0, e1, e2]
  refine (qPiece_apply _ r l).trans ?_
  rw [turned_apply]
  unfold outQ
  have d : (k.val * 128 + l.val) / 64 * 64 = k.val * 128 + l.val / 64 * 64 := by omega
  have d' : (k.val * 128 + l.val) % 64 = l.val % 64 := by omega
  simp only [d, d']

/-- The keys' array. -/
theorem k_array : (dats m 0 c).arrAt 7 cfg0.N = fun i : S8x4096x512.Idx => outK (rowOf m c (i 0) (i 1)) (i 1) (i 2) := by
  refine (dats m 0 c).arrAt_eq_of_covers 7 _ (by decide +kernel) fun t ht y => ?_
  blk_simp
  rw [after0_7, out7_eq]
  have h := (index_facts t).2.2.2.2.2.2.2.1
  refine k_tiles _ (fun y => outK (rowOf m c ((win0_7.blk t).view.emb y 0) ((win0_7.blk t).view.emb y 1))
    ((win0_7.blk t).view.emb y 1) ((win0_7.blk t).view.emb y 2)) (fun k r l => ?_) y
  have e0 : (win0_7.blk t).view.emb (ix3 (0 : Fin 1) r (⟨k.val * 128 + l.val, by omega⟩ : Fin 512)) 0 = bOf t :=
    Fin.ext (by blk_simp [h]; simp)
  have e1 : (win0_7.blk t).view.emb (ix3 (0 : Fin 1) r (⟨k.val * 128 + l.val, by omega⟩ : Fin 512)) 1 = posOf t r :=
    Fin.ext (by blk_simp [h]; simp [posOf])
  have e2 : (win0_7.blk t).view.emb (ix3 (0 : Fin 1) r (⟨k.val * 128 + l.val, by omega⟩ : Fin 512)) 2 =
      (⟨k.val * 128 + l.val, by omega⟩ : Fin 512) := Fin.ext (by blk_simp [h])
  dsimp only
  rw [e0, e1, e2]
  refine (kPiece_apply _ _ _ r l (head_apply r l)).trans ?_
  rw [turned_apply]
  unfold outK
  have d : 1024 + k.val / 2 * 128 + ((if decide (k.val % 2 = 1) = true then 64 else 0) + l.val % 64) / 64 * 64 =
      1024 + (k.val * 128 + l.val) / 128 * 64 := by
    by_cases hk : k.val % 2 = 1
    · simp only [hk, decide_true, if_true]; omega
    · simp only [hk, decide_false, Bool.false_eq_true, if_false]; omega
  have d' : ((if decide (k.val % 2 = 1) = true then 64 else 0) + l.val % 64) % 64 = (k.val * 128 + l.val) % 64 := by
    by_cases hk : k.val % 2 = 1
    · simp only [hk, decide_true, if_true]; omega
    · simp only [hk, decide_false, Bool.false_eq_true, if_false]; omega
  simp only [d, d']

/-- The values' array. -/
theorem v_array : (dats m 0 c).arrAt 8 cfg0.N = fun i : S8x256x4096.Idx => outV (rowOf m c (i 0) (i 2)) (i 1) := by
  refine (dats m 0 c).arrAt_eq_of_covers 8 _ (by decide +kernel) fun t ht y => ?_
  blk_simp
  rw [after0_8]
  have h := (index_facts t).2.2.2.2.2.2.2.2.1
  refine v_tile _ (fun y => outV (rowOf m c ((win0_8.blk t).view.emb y 0) ((win0_8.blk t).view.emb y 2))
    ((win0_8.blk t).view.emb y 1)) (fun f r => ?_) y
  have e0 : (win0_8.blk t).view.emb (ix3 (0 : Fin 1) f r) 0 = bOf t := Fin.ext (by blk_simp [h]; simp)
  have e1 : (win0_8.blk t).view.emb (ix3 (0 : Fin 1) f r) 1 = f := Fin.ext (by blk_simp [h])
  have e2 : (win0_8.blk t).view.emb (ix3 (0 : Fin 1) f r) 2 = posOf t r := Fin.ext (by blk_simp [h]; simp [posOf])
  dsimp only
  rw [e0, e1, e2]
  exact (vPiece_apply _ f r).trans (row_apply m c t r _)

/-- The gate's array. -/
theorem g_array : (dats m 0 c).arrAt 9 cfg0.N = fun i : S8x4096x1024.Idx => outG (rowOf m c (i 0) (i 1)) (i 2) := by
  refine (dats m 0 c).arrAt_eq_of_covers 9 _ (by decide +kernel) fun t ht y => ?_
  blk_simp
  rw [after0_9]
  have h := (index_facts t).2.2.2.2.2.2.2.2.2
  refine g_tile _ (fun y => outG (rowOf m c ((win0_9.blk t).view.emb y 0) ((win0_9.blk t).view.emb y 1))
    ((win0_9.blk t).view.emb y 2)) (fun r l => ?_) y
  have e0 : (win0_9.blk t).view.emb (ix3 (0 : Fin 1) r l) 0 = bOf t := Fin.ext (by blk_simp [h]; simp)
  have e1 : (win0_9.blk t).view.emb (ix3 (0 : Fin 1) r l) 1 = posOf t r := Fin.ext (by blk_simp [h]; simp [posOf])
  have e2 : (win0_9.blk t).view.emb (ix3 (0 : Fin 1) r l) 2 = l := Fin.ext (by blk_simp [h])
  dsimp only
  rw [e0, e1, e2]
  exact (gPiece_apply _ r l).trans (congrArg (fun z => outG z l) (funext fun n => row_apply m c t r n))

end

end Cert.InC

end
-- ==== Proof.InCRef.lean ====
/- The projection's reference, index by index. -/
module

public import proofs.«01_k».proof.Proof.InCSpec
public import proofs.«01_k».proof.Proof.Gen.Reference2Ideal.Read
public import Idealize.ShloMosaic.Lib.Pointwise

@[expose] public section

set_option maxRecDepth 16384

noncomputable section

namespace Cert.InC.Ref

open Idealize.ShloMosaic Idealize.ShloMosaic.TcCoe Idealize.SL.Sem Cert.Reference2Ideal Cert.Reference2Ideal.Gen
open Cert.Reference2Ideal.Read

variable (x : FVec Ideal S8x4096x1024 .f32) (mod : FVec Ideal S16x1x3072 .f32) (g : FVec Ideal S1024 .f32)
  (w : FVec Ideal S1024x2560 .f32)

theorem hid_apply (b : Fin 8) (r : Fin 4096) (k : Fin 1024) : val_main_v29 (F := Ideal) x mod g (ix3 b r k) =
    hid (fun k => x (ix3 b r k)) (fun l => mod (ix3 ⟨b.val, by omega⟩ 0 l)) (fun k => g (ix1 k)) k := by
  pointwise [val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v9, val_main_v8, val_main_v7, val_main_cst, val_main_cst_0, val_main_cst_1, val_main_cst_2]
  rfl

/-- The projection of the arguments' arrays. -/
def projOf (b : Fin 8) (r : Fin 4096) (n : Fin 2560) : EReal :=
  proj (fun k => x (ix3 b r k)) (fun l => mod (ix3 ⟨b.val, by omega⟩ 0 l)) (fun k => g (ix1 k)) (fun k n => w (ix2 k n)) n

theorem proj_apply (b : Fin 8) (r : Fin 4096) (n : Fin 2560) :
    val_main_v30 (F := Ideal) x mod g w (ix3 b r n) = projOf x mod g w b r n := by
  pointwise [val_main_v30, hid_apply]
  rfl

theorem angle0 (r : Fin 4096) (f : Fin 16) : val_main_v48 (F := Ideal) (ix2 r f) = angle (r.val / 64) f := by
  pointwise [val_main_v48, val_main_v47, val_main_v46, val_main_v45, val_main_v44, val_main_v43, val_main_v42, val_main_v41,
    val_main_v40, val_main_v39, val_main_v38, val_main_v37, val_main_v2, val_main_v1, val_main_v0, val_main_cst_3, val_main_cst_4]
  rfl

theorem angle1 (r : Fin 4096) (f : Fin 16) : val_main_v78 (F := Ideal) (ix2 r f) = angle (r.val % 64) f := by
  pointwise [val_main_v78, val_main_v77, val_main_v76, val_main_v75, val_main_v74, val_main_v73, val_main_v72, val_main_v71,
    val_main_v70, val_main_v69, val_main_v68, val_main_v67, val_main_v6, val_main_v5, val_main_v4, val_main_v3, val_main_cst_5,
    val_main_cst_6]
  rfl

theorem pair_sub {z : Fin 2560 → EReal} {a : Fin 16 → EReal} {i i' j j' : Fin 2560} {f f' : Fin 16} (hi : i = i')
    (hj : j = j') (hf : f = f') :
    z i * Ideal.cos (a f) - z j * Ideal.sin (a f) = z i' * Ideal.cos (a f') - z j' * Ideal.sin (a f') := by
  subst hi hj hf; rfl

theorem pair_add {z : Fin 2560 → EReal} {a : Fin 16 → EReal} {i i' j j' : Fin 2560} {f f' : Fin 16} (hi : i = i')
    (hj : j = j') (hf : f = f') :
    z i * Ideal.cos (a f) + z j * Ideal.sin (a f) = z i' * Ideal.cos (a f') + z j' * Ideal.sin (a f') := by
  subst hi hj hf; rfl

/-- A half of a head, its sixteen pairs of lanes turned by the angles `a`. -/
def half (z : Fin 2560 → EReal) (a : Fin 16 → EReal) (o : ℕ) (ho : o + 32 ≤ 2560) (e : Fin 32) : EReal :=
  if h : e.val < 16 then z ⟨o + e.val, by omega⟩ * Ideal.cos (a ⟨e.val, h⟩) - z ⟨o + (e.val + 16), by omega⟩ * Ideal.sin (a ⟨e.val, h⟩)
  else z ⟨o + e.val, by omega⟩ * Ideal.cos (a ⟨e.val - 16, by omega⟩) + z ⟨o + (e.val - 16), by omega⟩ * Ideal.sin (a ⟨e.val - 16, by omega⟩)

/-- The two halves are the embedding of the head. -/
theorem halves_rope (z : Fin 2560 → EReal) (row col : Fin 16 → EReal) (o : ℕ) (ho : o + 64 ≤ 2560) (e : Fin 64) :
    (if h : e.val < 32 then half z row o (by omega) ⟨e.val, h⟩ else half z col (o + 32) (by omega) ⟨e.val - 32, by omega⟩) =
      rope (fun e => z ⟨o + e.val, by omega⟩) row col e := by
  unfold rope half
  dsimp only
  repeat' split
  all_goals first
    | omega
    | exact pair_sub (Fin.ext (by dsimp only <;> omega)) (Fin.ext (by dsimp only <;> omega)) (Fin.ext (by dsimp only <;> omega))
    | exact pair_add (Fin.ext (by dsimp only <;> omega)) (Fin.ext (by dsimp only <;> omega)) (Fin.ext (by dsimp only <;> omega))

theorem q_half0 (b : Fin 8) (r : Fin 4096) (h : Fin 16) (e : Fin 32) : val_main_v65 (F := Ideal) x mod g w (ix4 b r h e) =
    half (projOf x mod g w b r) (angle (r.val / 64)) (h.val * 64) (by omega) e := by
  pointwise [val_main_v65, val_main_v64, val_main_v63, val_main_v62, val_main_v61, val_main_v60, val_main_v59, val_main_v58, val_main_v57, val_main_v56, val_main_v55, val_main_v54, val_main_v53, val_main_v52, val_main_v51, val_main_v50, val_main_v49,
    val_main_v36, val_main_v35, val_main_v31, proj_apply, angle0]
  unfold half
  split
  · exact pair_sub (Fin.ext (by dsimp only <;> omega)) (Fin.ext (by dsimp only <;> omega)) (Fin.ext (by dsimp only <;> omega))
  · exact pair_add (Fin.ext (by dsimp only <;> omega)) (Fin.ext (by dsimp only <;> omega)) (Fin.ext (by dsimp only <;> omega))

theorem q_half1 (b : Fin 8) (r : Fin 4096) (h : Fin 16) (e : Fin 32) : val_main_v95 (F := Ideal) x mod g w (ix4 b r h e) =
    half (projOf x mod g w b r) (angle (r.val % 64)) (h.val * 64 + 32) (by omega) e := by
  pointwise [val_main_v95, val_main_v94, val_main_v93, val_main_v92, val_main_v91, val_main_v90, val_main_v89, val_main_v88, val_main_v87, val_main_v86, val_main_v85, val_main_v84, val_main_v83, val_main_v82, val_main_v81, val_main_v80, val_main_v79,
    val_main_v66, val_main_v35, val_main_v31, proj_apply, angle1]
  unfold half
  split
  · exact pair_sub (Fin.ext (by dsimp only <;> omega)) (Fin.ext (by dsimp only <;> omega)) (Fin.ext (by dsimp only <;> omega))
  · exact pair_add (Fin.ext (by dsimp only <;> omega)) (Fin.ext (by dsimp only <;> omega)) (Fin.ext (by dsimp only <;> omega))

/-- The queries' heads are turned. -/
theorem q_apply (b : Fin 8) (r : Fin 4096) (h : Fin 16) (e : Fin 64) :
    val_main_v96 (F := Ideal) x mod g w (ix4 b r h e) =
      rope (fun e => projOf x mod g w b r ⟨h.val * 64 + e.val, by omega⟩) (angle (r.val / 64)) (angle (r.val % 64)) e := by
  pointwise [val_main_v96, q_half0, q_half1]
  exact halves_rope _ _ _ _ (by omega) e

theorem angle2 (r : Fin 4096) (f : Fin 16) : val_main_v110 (F := Ideal) (ix2 r f) = angle (r.val / 64) f := by
  pointwise [val_main_v110, val_main_v109, val_main_v108, val_main_v107, val_main_v106, val_main_v105, val_main_v104,
    val_main_v103, val_main_v102, val_main_v101, val_main_v100, val_main_v99, val_main_v2, val_main_v1, val_main_v0,
    val_main_cst_7, val_main_cst_8]
  rfl

theorem angle3 (r : Fin 4096) (f : Fin 16) : val_main_v140 (F := Ideal) (ix2 r f) = angle (r.val % 64) f := by
  pointwise [val_main_v140, val_main_v139, val_main_v138, val_main_v137, val_main_v136, val_main_v135, val_main_v134,
    val_main_v133, val_main_v132, val_main_v131, val_main_v130, val_main_v129, val_main_v6, val_main_v5, val_main_v4, val_main_v3,
    val_main_cst_9, val_main_cst_10]
  rfl

theorem k_half0 (b : Fin 8) (r : Fin 4096) (h : Fin 4) (e : Fin 32) : val_main_v127 (F := Ideal) x mod g w (ix4 b r h e) =
    half (projOf x mod g w b r) (angle (r.val / 64)) (1024 + h.val * 64) (by omega) e := by
  pointwise [val_main_v127, val_main_v126, val_main_v125, val_main_v124, val_main_v123, val_main_v122, val_main_v121, val_main_v120, val_main_v119, val_main_v118, val_main_v117, val_main_v116, val_main_v115, val_main_v114, val_main_v113, val_main_v112, val_main_v111,
    val_main_v98, val_main_v97, val_main_v32, proj_apply, angle2]
  unfold half
  split
  · exact pair_sub (Fin.ext (by dsimp only <;> omega)) (Fin.ext (by dsimp only <;> omega)) (Fin.ext (by dsimp only <;> omega))
  · exact pair_add (Fin.ext (by dsimp only <;> omega)) (Fin.ext (by dsimp only <;> omega)) (Fin.ext (by dsimp only <;> omega))

theorem k_half1 (b : Fin 8) (r : Fin 4096) (h : Fin 4) (e : Fin 32) : val_main_v157 (F := Ideal) x mod g w (ix4 b r h e) =
    half (projOf x mod g w b r) (angle (r.val % 64)) (1024 + h.val * 64 + 32) (by omega) e := by
  pointwise [val_main_v157, val_main_v156, val_main_v155, val_main_v154, val_main_v153, val_main_v152, val_main_v151, val_main_v150, val_main_v149, val_main_v148, val_main_v147, val_main_v146, val_main_v145, val_main_v144, val_main_v143, val_main_v142, val_main_v141,
    val_main_v128, val_main_v97, val_main_v32, proj_apply, angle3]
  unfold half
  split
  · exact pair_sub (Fin.ext (by dsimp only <;> omega)) (Fin.ext (by dsimp only <;> omega)) (Fin.ext (by dsimp only <;> omega))
  · exact pair_add (Fin.ext (by dsimp only <;> omega)) (Fin.ext (by dsimp only <;> omega)) (Fin.ext (by dsimp only <;> omega))

/-- The keys' heads are turned. -/
theorem k_apply (b : Fin 8) (r : Fin 4096) (h : Fin 4) (e : Fin 64) :
    val_main_v158 (F := Ideal) x mod g w (ix4 b r h e) =
      rope (fun e => projOf x mod g w b r ⟨1024 + h.val * 64 + e.val, by omega⟩) (angle (r.val / 64)) (angle (r.val % 64)) e := by
  pointwise [val_main_v158, k_half0, k_half1]
  exact halves_rope _ _ _ _ (by omega) e

theorem ofBits_eighth : Ideal.ofBits .f32 0x3E000000#32 = (((1 : ℝ) / 8 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- The queries' result. -/
theorem out_q (b : Fin 8) (r : Fin 4096) (l : Fin 1024) : val_main_v167 (F := Ideal) x mod g w (ix3 b r l) =
    outQ (projOf x mod g w b r) r l := by
  pointwise [val_main_v167, val_main_v164, val_main_v163, val_main_v162, val_main_v161, val_main_v160, val_main_v159,
    val_main_cst_11, val_main_cst_12, q_apply]
  rw [ofBits_eighth, ofBits_two]
  show Ideal.div _ (Ideal.log ((2 : ℝ) : EReal)) = _
  rw [Ideal.log_coe, if_neg (by norm_num), Ideal.div_coe (Real.log_pos (by norm_num)).ne', mul_assoc, ← EReal.coe_mul]
  unfold outQ
  congr 2
  rw [show (256 : ℝ) = 2 ^ (8 : ℕ) by norm_num, Real.log_pow]
  push_cast
  rw [mul_inv]
  norm_num

theorem k_twice (b : Fin 8) (r : Fin 4096) (h : Fin 4) (e : Fin 128) :
    val_main_v165 (F := Ideal) x mod g w (ix4 b r h e) =
      val_main_v158 (F := Ideal) x mod g w (ix4 b r h ⟨e.val % 64, by omega⟩) := by
  unfold val_main_v165
  generalize val_main_v158 (F := Ideal) x mod g w = K
  pointwise []
  split
  · exact congrArg _ (congrArg _ (Fin.ext (by dsimp only; omega)))
  · exact congrArg _ (congrArg _ (Fin.ext (by dsimp only; omega)))

theorem join_apply (K : FVec Ideal S8x4096x4x128 .f32) (b : Fin 8) (r : Fin 4096) (l : Fin 512) :
    truncf (F := Ideal) .bf16 (shapeCast S8x4096x512 K shapeCasts_S8x4096x4x128_S8x4096x512) bitsLt_bf16_f32 (ix3 b r l) =
      K (ix4 b r ⟨l.val / 128, by omega⟩ ⟨l.val % 128, by omega⟩) := by
  pointwise []

/-- The keys' result. -/
theorem out_k (b : Fin 8) (r : Fin 4096) (l : Fin 512) : val_main_v168 (F := Ideal) x mod g w (ix3 b r l) =
    outK (projOf x mod g w b r) r l := by
  have hK := k_twice x mod g w b r
  unfold val_main_v168 val_main_v166
  generalize val_main_v165 (F := Ideal) x mod g w = K at hK ⊢
  refine (join_apply K b r l).trans ?_
  rw [hK, k_apply]
  unfold outK
  congr 2
  dsimp only
  omega

theorem v_apply (Z : FVec Ideal S8x4096x2560 .f32) (b : Fin 8) (f : Fin 256) (r : Fin 4096) :
    truncf (F := Ideal) .bf16 (transpose S8x256x4096 [0, 2, 1]
        (extractStridedSlice S8x4096x256 ![0, 0, 1280] Z slices_S8x4096x2560_S8x4096x256_0_0_1280)
        transposes_S8x4096x256_S8x256x4096_0_2_1) bitsLt_bf16_f32 (ix3 b f r) =
      Z (ix3 b r ⟨1280 + f.val, by omega⟩) := by
  pointwise []

/-- The values' result. -/
theorem out_v (b : Fin 8) (f : Fin 256) (r : Fin 4096) : val_main_v170 (F := Ideal) x mod g w (ix3 b f r) =
    outV (projOf x mod g w b r) f :=
  (v_apply (val_main_v30 (F := Ideal) x mod g w) b f r).trans (proj_apply x mod g w b r _)

theorem g_slice (b : Fin 8) (r : Fin 4096) (l : Fin 1024) :
    val_main_v34 (F := Ideal) x mod g w (ix3 b r l) = projOf x mod g w b r ⟨1536 + l.val, by omega⟩ := by
  pointwise [val_main_v34, proj_apply]

theorem silu_apply (Z : FVec Ideal S8x4096x1024 .f32) (b : Fin 8) (r : Fin 4096) (l : Fin 1024) :
    truncf (F := Ideal) .bf16 (mulf Z (Host.divf (val_main_call0_v4 (F := Ideal)) (addf (val_main_call0_v2 (F := Ideal))
      (Host.exp (Host.negf Z))))) bitsLt_bf16_f32 (ix3 b r l) =
      Z (ix3 b r l) * Ideal.div 1 (1 + Ideal.exp (-Z (ix3 b r l))) := by
  pointwise [val_main_call0_v4, val_main_call0_v2, val_main_call0_cst, val_main_call0_cst_0]

/-- The gate's result. -/
theorem out_g (b : Fin 8) (r : Fin 4096) (l : Fin 1024) : val_main_v172 (F := Ideal) x mod g w (ix3 b r l) =
    outG (projOf x mod g w b r) l := by
  refine (silu_apply (val_main_v34 (F := Ideal) x mod g w) b r l).trans ?_
  rw [g_slice]
  rfl

end Cert.InC.Ref

end
-- ==== Proof.InCFinal.lean ====
/- The value claim of the projection call. -/
module

public import proofs.«01_k».proof.Defs
public import proofs.«01_k».proof.Proof.InCWhole
public import proofs.«01_k».proof.Proof.InCRef
public import proofs.«01_k».proof.Proof.Gen.Kernel2Ideal.Value

@[expose] public section

set_option maxRecDepth 16384

noncomputable section

namespace Cert.InC

open Idealize.ShloMosaic Idealize.ShloMosaic.TcCoe Idealize.SL.Sem

/-- Both idealized programs leave the same queries, keys, values and gate from the same arguments. -/
theorem values_agree : Cert.algebraic_Kernel2Ideal_Reference2Ideal (hKernel2Ideal := Cert.Kernel2Ideal.Gen.facts)
    (hReference2Ideal := Cert.Reference2Ideal.Gen.facts) := by
  intro m g m' g' _ hagree
  refine ⟨fun c => fun i : Cert.Kernel2Ideal.S8x4096x1024.Idx => outQ (rowOf m c (i 0) (i 1)) (i 1) (i 2),
    fun c => fun i : Cert.Kernel2Ideal.S8x4096x512.Idx => outK (rowOf m c (i 0) (i 1)) (i 1) (i 2),
    fun c => fun i : Cert.Kernel2Ideal.S8x256x4096.Idx => outV (rowOf m c (i 0) (i 2)) (i 1),
    fun c => fun i : Cert.Kernel2Ideal.S8x4096x1024.Idx => outG (rowOf m c (i 0) (i 1)) (i 2), ?_, ?_⟩
  · refine (θ_run Cert.Kernel2Ideal.defs _ _).mono (fun r h c => ?_) (Cert.Kernel2Ideal.Value.run_blocks (F := Ideal) m g)
    obtain ⟨h0, h1, h2, h3, hk⟩ := h c
    exact ⟨h0.trans (q_array m c), h1.trans (k_array m c), h2.trans (v_array m c), h3.trans (g_array m c), hk⟩
  · refine (θ_run Cert.Reference2Ideal.defs _ _).mono (fun r h c => ?_) (Cert.Reference2Ideal.Value.run (F := Ideal) m' g')
    obtain ⟨h0, h1, h2, h3, hk⟩ := h c
    obtain ⟨a0, a1, a2, a3⟩ := hagree c
    refine ⟨h0.trans ?_, h1.trans ?_, h2.trans ?_, h3.trans ?_, hk⟩
    · refine (Cert.Reference2Ideal.Read.val_main_v167_eq _).trans
        ((congr (congr (congr (congrArg (Cert.Reference2Ideal.Read.val_main_v167 (F := Ideal)) a0) a1) a2) a3).trans (funext fun i => ?_))
      exact (congrArg _ (eq_ix3 i)).trans (Ref.out_q _ _ _ _ (i 0) (i 1) (i 2))
    · refine (Cert.Reference2Ideal.Read.val_main_v168_eq _).trans
        ((congr (congr (congr (congrArg (Cert.Reference2Ideal.Read.val_main_v168 (F := Ideal)) a0) a1) a2) a3).trans (funext fun i => ?_))
      exact (congrArg _ (eq_ix3 i)).trans (Ref.out_k _ _ _ _ (i 0) (i 1) (i 2))
    · refine (Cert.Reference2Ideal.Read.val_main_v170_eq _).trans
        ((congr (congr (congr (congrArg (Cert.Reference2Ideal.Read.val_main_v170 (F := Ideal)) a0) a1) a2) a3).trans (funext fun i => ?_))
      exact (congrArg _ (eq_ix3 i)).trans (Ref.out_v _ _ _ _ (i 0) (i 1) (i 2))
    · refine (Cert.Reference2Ideal.Read.val_main_v172_eq _).trans
        ((congr (congr (congr (congrArg (Cert.Reference2Ideal.Read.val_main_v172 (F := Ideal)) a0) a1) a2) a3).trans (funext fun i => ?_))
      exact (congrArg _ (eq_ix3 i)).trans (Ref.out_g _ _ _ _ (i 0) (i 1) (i 2))

end Cert.InC

end
-- ==== Proof.AbSpec.lean ====
/- The gMLP branch's mathematics: a layer norm of one part of the projection, the mixing of positions inside chunks of 128, the gates. -/
module

public import proofs.«01_k».proof.Proof.InCSpec

@[expose] public section

noncomputable section

namespace Cert.Ab

open Idealize.ShloMosaic

/-- The gate's function. -/
def silu (z : EReal) : EReal := z * Ideal.div 1 (1 + Ideal.exp (-z))

/-- The part `v` of a row of the projection, less its mean. -/
def center (z : Fin 2560 → EReal) (j : Fin 512) : EReal :=
  z ⟨512 + j.val, by omega⟩ - Ideal.div (∑ i : Fin 512, z ⟨512 + i.val, by omega⟩) (Ideal.ofBits .f32 0x44000000#32)

/-- The layer norm of the part `v`. -/
def lnorm (z : Fin 2560 → EReal) (vg : Fin 512 → EReal) (j : Fin 512) : EReal :=
  center z j * Ideal.rsqrt (Ideal.div (∑ i, center z i * center z i) (Ideal.ofBits .f32 0x44000000#32)
    + Ideal.ofBits .f32 0x358637BD#32) * vg j

/-- The gMLP's output at row `q` of a chunk: u times (the chunk's normed rows mixed by the head's matrix, and its bias), gated. -/
def outA (zc : Fin 128 → Fin 2560 → EReal) (vg : Fin 512 → EReal) (sw : Fin 4 → Fin 128 → Fin 128 → EReal)
    (sb : Fin 4 → Fin 128 → EReal) (q : Fin 128) (l : Fin 512) : EReal :=
  zc q ⟨l.val, by omega⟩ * ((∑ p, sw ⟨l.val / 128, by omega⟩ q p * lnorm (zc p) vg l) + sb ⟨l.val / 128, by omega⟩ q)
    * silu (zc q ⟨1024 + l.val, by omega⟩)

/-- The gMLP's output at a position, of the rows of a batch. -/
def outAt (z : Fin 4096 → Fin 2560 → EReal) (vg : Fin 512 → EReal) (sw : Fin 4 → Fin 128 → Fin 128 → EReal)
    (sb : Fin 4 → Fin 128 → EReal) (r : Fin 4096) (l : Fin 512) : EReal :=
  outA (fun p => z ⟨r.val / 128 * 128 + p.val, by omega⟩) vg sw sb ⟨r.val % 128, by omega⟩ l

/-- The Fourier branch's gate. -/
def outB (z : Fin 2560 → EReal) (l : Fin 512) : EReal := silu (z ⟨2048 + l.val, by omega⟩)

/-- The position of row `s` of quarter `j` of the sequence. -/
def posi (j : Fin 4) (s : Fin 1024) : Fin 4096 := ⟨j.val * 1024 + s.val, by omega⟩

end Cert.Ab

end
-- ==== Proof.AbPoint.lean ====
/- What a grid point of the gMLP call stores, index by index. -/
module

public import proofs.«01_k».proof.Proof.AbSpec
public import proofs.«01_k».proof.Proof.Gen.Kernel3Ideal.Frame

@[expose] public section

set_option maxRecDepth 16384

noncomputable section

namespace Cert.Ab

open Idealize.ShloMosaic Idealize.ShloMosaic.TcCoe Idealize.SL.Sem Cert.Kernel3Ideal Cert.Kernel3Ideal.Gen Cert.InC

theorem pay4_apply (v0 : Vec Ideal S1x4x256x1024 .f32) (v2 : Vec Ideal S1x1x3072 .f32) (v4 : Vec Ideal S1x1024 .f32)
    (v27 : Vec Ideal S1024x2560 .bf16) (r : Fin 1024) (n : Fin 2560) :
    k0_pay4 (F := Ideal) v0 v2 v4 v27 (ix2 r n) =
      proj (fun k => v0 (ix4 0 ⟨r.val / 256, by omega⟩ ⟨r.val % 256, by omega⟩ k)) (fun l => v2 (ix3 0 0 l))
        (fun k => v4 (ix2 0 k)) (fun k n => v27 (ix2 k n)) n := by
  pointwise [k0_pay4]
  rfl

/-- The part `v` of a projection. -/
def vPart (z : FVec Ideal S1024x2560 .f32) : FVec Ideal S1024x512 .f32 :=
  extractStridedSlice S1024x512 ![0, 512] z slices_S1024x2560_o0_512_S1024x512

/-- Its sums by row. -/
def vSums (z : FVec Ideal S1024x2560 .f32) : FVec Ideal S1024x1 .f32 :=
  shapeCast S1024x1 (multiReduction .add [1] S1024 (vPart z) 0x00000000#32 reduces_S1024x512_S1024 (.inl rfl) rfl)
    shapeCasts_S1024_S1024x1

/-- The layer norm, of a projection. -/
theorem norm_apply (z : FVec Ideal S1024x2560 .f32) (vg : Vec Ideal S1x512 .f32) (r : Fin 1024) (j : Fin 512) :
    k0_pay8 (F := Ideal) (vPart z) (vSums z) (k0_pay7 (F := Ideal)) vg (ix2 r j) =
      lnorm (fun n => z (ix2 r n)) (fun j => vg (ix2 0 j)) j := by
  pointwise [k0_pay8, k0_pay7, vPart, vSums]
  rfl

/-- The gate's function on a block. -/
def siluV (t : FVec Ideal S128x128 .f32) : FVec Ideal S128x128 .f32 :=
  mulf t (divf (broadcast S128x128 (Scalar.ofBits .f32 0x3F800000#32)) (addf (broadcast S128x128 (Scalar.ofBits .f32 0x3F800000#32))
    (exp (subf (broadcast S128x128 (Scalar.ofBits .f32 0x00000000#32)) t))))

theorem siluV_apply (t : FVec Ideal S128x128 .f32) (q c : Fin 128) : siluV t (ix2 q c) = silu (t (ix2 q c)) := by
  pointwise [siluV, silu]
  rw [zero_sub]

/-- A block of 128 rows and lanes of the projection. -/
def zBlk (z : FVec Ideal S1024x2560 .f32) (r o : ℕ) (hr : r + 128 ≤ 1024) (ho : o + 128 ≤ 2560) : FVec Ideal S128x128 .f32 :=
  extractStridedSlice S128x128 ![r, o] z ⟨rfl, by intro a; fin_cases a <;> simp [Shape.size] <;> omega⟩

theorem zBlk_apply (z : FVec Ideal S1024x2560 .f32) (r o : ℕ) (hr : r + 128 ≤ 1024) (ho : o + 128 ≤ 2560) (q c : Fin 128) :
    zBlk z r o hr ho (ix2 q c) = z (ix2 ⟨r + q.val, by omega⟩ ⟨o + c.val, by omega⟩) := by
  unfold zBlk
  pointwise []

/-- A block of 128 rows and lanes of the normed rows. -/
def vBlk (v : FVec Ideal S1024x512 .bf16) (r o : ℕ) (hr : r + 128 ≤ 1024) (ho : o + 128 ≤ 512) : FVec Ideal S128x128 .bf16 :=
  extractStridedSlice S128x128 ![r, o] v ⟨rfl, by intro a; fin_cases a <;> simp [Shape.size] <;> omega⟩

theorem vBlk_apply (v : FVec Ideal S1024x512 .bf16) (r o : ℕ) (hr : r + 128 ≤ 1024) (ho : o + 128 ≤ 512) (q c : Fin 128) :
    vBlk v r o hr ho (ix2 q c) = v (ix2 ⟨r + q.val, by omega⟩ ⟨o + c.val, by omega⟩) := by
  unfold vBlk
  pointwise []

/-- Two chunks side by side, mixed by a head's matrix. -/
def mixPair (a b : FVec Ideal S128x128 .bf16) (sw : Vec Ideal S1x128x128 .bf16) : FVec Ideal S128x256 .f32 :=
  matmul dot_S128x128_S128x256_S128x256_1_0_0_1_n_n none
    (φ₁ := .bf16) (shapeCast S128x128 (sw : FVec Ideal S1x128x128 .bf16) shapeCasts_S1x128x128_S128x128)
    (concatenate S128x256 1 [⟨S128x128, a⟩, ⟨S128x128, b⟩] concatenates_S128x128_S128x128_S128x256_d1)
    (constant S128x256 .f32 0x00000000#32)

/-- The first or the second of the two. -/
def half (second : Bool) (t : FVec Ideal S128x256 .f32) : FVec Ideal S128x128 .f32 :=
  match second with
  | false => extractStridedSlice S128x128 ![0, 0] t slices_S128x256_o0_0_S128x128
  | true => extractStridedSlice S128x128 ![0, 128] t slices_S128x256_o0_128_S128x128

theorem half_mix_apply (second : Bool) (a b : FVec Ideal S128x128 .bf16) (sw : Vec Ideal S1x128x128 .bf16) (q c : Fin 128) :
    half second (mixPair a b sw) (ix2 q c) = ∑ p, sw (ix3 0 q p) * (if second then b else a) (ix2 p c) := by
  cases second
  · pointwise [half, mixPair]
    simp
  · pointwise [half, mixPair]

/-- What is stored for a head and a chunk. -/
def piece (hd : Fin 4) (k : Fin 8) (z : FVec Ideal S1024x2560 .f32) (v : FVec Ideal S1024x512 .bf16) (sw : Vec Ideal S1x128x128 .bf16)
    (sb : Vec Ideal S1x128x128 .f32) : FVec Ideal S1x1x128x128 .bf16 :=
  shapeCast S1x1x128x128 (truncf .bf16 (mulf (mulf (zBlk z (k.val * 128) (hd.val * 128) (by omega) (by omega))
    (addf (half (decide (k.val % 2 = 1)) (mixPair (vBlk v (k.val / 2 * 256) (hd.val * 128) (by omega) (by omega))
      (vBlk v (k.val / 2 * 256 + 128) (hd.val * 128) (by omega) (by omega)) sw))
      (shapeCast S128x128 sb shapeCasts_S1x128x128_S128x128)))
    (siluV (zBlk z (k.val * 128) (1024 + hd.val * 128) (by omega) (by omega)))) bitsLt_bf16_f32)
    shapeCasts_S128x128_S1x1x128x128

theorem store_apply (a b s g : FVec Ideal S128x128 .f32) (sb : Vec Ideal S1x128x128 .f32) (q c : Fin 128) :
    shapeCast S1x1x128x128 (truncf .bf16 (mulf (mulf a (addf s (shapeCast S128x128 sb shapeCasts_S1x128x128_S128x128))) g)
      bitsLt_bf16_f32) shapeCasts_S128x128_S1x1x128x128 (ix4 0 0 q c) =
      a (ix2 q c) * (s (ix2 q c) + sb (ix3 0 q c)) * g (ix2 q c) := by
  pointwise []

theorem piece_apply (hd : Fin 4) (k : Fin 8) (z : FVec Ideal S1024x2560 .f32) (v : FVec Ideal S1024x512 .bf16)
    (sw : Vec Ideal S1x128x128 .bf16) (sb : Vec Ideal S1x128x128 .f32) (q c : Fin 128) :
    piece hd k z v sw sb (ix4 0 0 q c) =
      z (ix2 ⟨k.val * 128 + q.val, by omega⟩ ⟨hd.val * 128 + c.val, by omega⟩) *
        ((∑ p : Fin 128, sw (ix3 0 q p) * v (ix2 ⟨k.val * 128 + p.val, by omega⟩ ⟨hd.val * 128 + c.val, by omega⟩)) + sb (ix3 0 q c)) *
        silu (z (ix2 ⟨k.val * 128 + q.val, by omega⟩ ⟨1024 + hd.val * 128 + c.val, by omega⟩)) := by
  unfold piece
  refine (store_apply _ 0 _ _ sb q c).trans ?_
  rw [zBlk_apply, siluV_apply, zBlk_apply, half_mix_apply]
  congr 3
  refine Finset.sum_congr rfl fun p _ => congrArg _ ?_
  by_cases hk : k.val % 2 = 1
  · simp only [hk, decide_true, if_true]
    rw [vBlk_apply]
    exact congrArg v (congrArg (fun i => ix2 i _) (Fin.ext (by dsimp only; omega)))
  · simp only [hk, decide_false, Bool.false_eq_true, if_false]
    rw [vBlk_apply]
    exact congrArg v (congrArg (fun i => ix2 i _) (Fin.ext (by dsimp only; omega)))

/-- The Fourier branch's gate, of a projection. -/
theorem gate_apply (z : FVec Ideal S1024x2560 .f32) (j : Fin 4) (s : Fin 256) (l : Fin 512) :
    k0_pay91 (F := Ideal) z (ix4 0 j s l) = outB (fun n => z (ix2 ⟨j.val * 256 + s.val, by omega⟩ n)) l := by
  pointwise [k0_pay91, outB, silu]
  rw [zero_sub]

section
variable (x0 : Vec Ideal S1x4x256x1024 .f32) (x1 : Vec Ideal S1x1x3072 .f32) (x2 : Vec Ideal S1x1024 .f32)
  (x3 : Vec Ideal S1024x2560 .bf16) (x4 : Vec Ideal S1x512 .f32) (x5 : Vec Ideal S4x128x128 .bf16) (x6 : Vec Ideal S4x128x128 .f32)
  (x7 : Vec Ideal S128x256 .f32) (x8 x9 : Vec Ideal S4x256x128 .f32)

/-- The load of a head's matrix. -/
def ldHead {e : EltTy} (x : Vec Ideal S4x128x128 e) (h : Fin 4) : Vec Ideal S1x128x128 e :=
  View.ld x (Rect.unit (s := S4x128x128) ![h.val, 0, 0] S1x128x128.size
    (by intro a; fin_cases a <;> simp [Shape.size] <;> omega))

theorem ldHead_apply {e : EltTy} (x : Vec Ideal S4x128x128 e) (h : Fin 4) (q p : Fin 128) :
    ldHead x h (ix3 0 q p) = x (ix3 h q p) := by
  pointwise [ldHead]

/-- The pieces a grid point stores. -/
def aAt (hd : Fin 4) (k : Fin 8) : FVec Ideal S1x1x128x128 .bf16 :=
  piece hd k (k0_pay263 x0 x1 x2 x3 x4 x5 x6 x7 x8 x9) (k0_pay267 x0 x1 x2 x3 x4 x5 x6 x7 x8 x9) (ldHead x5 hd) (ldHead x6 hd)

/-- A grid point's chunks and heads as its stores. -/
theorem out10_eq : out0_10 x0 x1 x2 x3 x4 x5 x6 x7 x8 x9 =
    let a := aAt x0 x1 x2 x3 x4 x5 x6 x7 x8 x9
    View.canon [⟨r0_41, a 3 7⟩, ⟨r0_40, a 3 6⟩, ⟨r0_39, a 3 5⟩, ⟨r0_38, a 3 4⟩, ⟨r0_37, a 3 3⟩, ⟨r0_36, a 3 2⟩, ⟨r0_35, a 3 1⟩,
      ⟨r0_34, a 3 0⟩, ⟨r0_32, a 2 7⟩, ⟨r0_31, a 2 6⟩, ⟨r0_30, a 2 5⟩, ⟨r0_29, a 2 4⟩, ⟨r0_28, a 2 3⟩, ⟨r0_27, a 2 2⟩, ⟨r0_26, a 2 1⟩,
      ⟨r0_25, a 2 0⟩, ⟨r0_23, a 1 7⟩, ⟨r0_22, a 1 6⟩, ⟨r0_21, a 1 5⟩, ⟨r0_20, a 1 4⟩, ⟨r0_19, a 1 3⟩, ⟨r0_18, a 1 2⟩, ⟨r0_17, a 1 1⟩,
      ⟨r0_16, a 1 0⟩, ⟨r0_14, a 0 7⟩, ⟨r0_13, a 0 6⟩, ⟨r0_12, a 0 5⟩, ⟨r0_11, a 0 4⟩, ⟨r0_10, a 0 3⟩, ⟨r0_9, a 0 2⟩, ⟨r0_8, a 0 1⟩,
      ⟨r0_7, a 0 0⟩] := rfl

/-- The projection of a grid point's rows. -/
theorem z_apply (r : Fin 1024) (n : Fin 2560) : k0_pay263 x0 x1 x2 x3 x4 x5 x6 x7 x8 x9 (ix2 r n) =
    proj (fun k => x0 (ix4 0 ⟨r.val / 256, by omega⟩ ⟨r.val % 256, by omega⟩ k)) (fun l => x1 (ix3 0 0 l))
      (fun k => x2 (ix2 0 k)) (fun k n => x3 (ix2 k n)) n := by
  unfold k0_pay263
  rw [pay4_apply]
  have h0 : ∀ (j : Fin 4) (s : Fin 256) (k : Fin 1024), View.ld x0 r0_1 (ix4 0 j s k) = x0 (ix4 0 j s k) := fun j s k => by pointwise []
  have h1 : ∀ l : Fin 3072, View.ld x1 r0_2 (ix3 0 0 l) = x1 (ix3 0 0 l) := fun l => by pointwise []
  have h2 : ∀ k : Fin 1024, View.ld x2 r0_3 (ix2 0 k) = x2 (ix2 0 k) := fun k => by pointwise []
  have h3 : ∀ (k : Fin 1024) (n : Fin 2560), View.ld x3 r0_4 (ix2 k n) = x3 (ix2 k n) := fun k n => by pointwise []
  simp only [h0, h1, h2, h3]

/-- The layer norm of a grid point's rows. -/
theorem vn_apply (r : Fin 1024) (j : Fin 512) : k0_pay267 x0 x1 x2 x3 x4 x5 x6 x7 x8 x9 (ix2 r j) =
    lnorm (fun n => k0_pay263 x0 x1 x2 x3 x4 x5 x6 x7 x8 x9 (ix2 r n)) (fun j => x4 (ix2 0 j)) j := by
  have h : k0_pay267 x0 x1 x2 x3 x4 x5 x6 x7 x8 x9 = k0_pay8 (F := Ideal) (vPart (k0_pay263 x0 x1 x2 x3 x4 x5 x6 x7 x8 x9))
    (vSums (k0_pay263 x0 x1 x2 x3 x4 x5 x6 x7 x8 x9)) (k0_pay7 (F := Ideal)) (View.ld x4 r0_5) := rfl
  have h4 : ∀ j : Fin 512, View.ld x4 r0_5 (ix2 0 j) = x4 (ix2 0 j) := fun j => by pointwise []
  rw [h, norm_apply]
  simp only [h4]

end

end Cert.Ab

end
-- ==== Proof.AbBlocks.lean ====
/- The blocks a grid point of the gMLP call reads, at an index, as the arguments. -/
module

public import proofs.«01_k».proof.Proof.AbSpec
public import proofs.«01_k».proof.Proof.Gen.Kernel3Ideal.Frame
public import Idealize.ShloMosaic.Lib.Pointwise
public import Idealize.ShloMosaic.Lib.Pipeline.ValueKit.Point
public import Idealize.ShloMosaic.Lib.StableHlo.RunRead

@[expose] public section

set_option maxRecDepth 16384

noncomputable section

namespace Cert.Ab

open Idealize.ShloMosaic Idealize.ShloMosaic.TcCoe Idealize.SL.Sem Cert.Kernel3Ideal Cert.Kernel3Ideal.Gen

variable (m : (ℓ : Loc nD τ sig) → Buf (Elt Ideal) ℓ) (c : Dev nD) (t : Fin cfg0.N)

/-- The batch of a grid point. -/
def bOf (t : Fin cfg0.N) : Fin 8 := grid0.coords t 0
/-- The stretch of 256 rows, of every quarter of the sequence, of a grid point. -/
def nOf (t : Fin cfg0.N) : Fin 4 := grid0.coords t 1
/-- The row, in its quarter, of a grid point's row. -/
def rowIn (t : Fin cfg0.N) (s : Fin 256) : Fin 1024 := ⟨(nOf t).val * 256 + s.val, by have := (nOf t).isLt; omega⟩

/-! ## The arguments -/

/-- The residual stream. -/
def argX (b : Fin 8) (r : Fin 4096) (l : Fin 1024) : EReal := m ((c : Thread nD τ).loc main_arg0) (ix3 b r l)
/-- The modulation. -/
def argMod (b : Fin 16) (l : Fin 3072) : EReal := m ((c : Thread nD τ).loc main_arg1) (ix3 b 0 l)
/-- The norm's scale. -/
def argG (l : Fin 1024) : EReal := m ((c : Thread nD τ).loc main_arg2) (ix1 l)
/-- The projection's weights. -/
def argW (k : Fin 1024) (n : Fin 2560) : EReal := m ((c : Thread nD τ).loc main_arg3) (ix2 k n)
/-- The layer norm's scale. -/
def argVg (l : Fin 512) : EReal := m ((c : Thread nD τ).loc main_arg4) (ix1 l)
/-- The heads' matrices. -/
def argSw (h : Fin 4) (q p : Fin 128) : EReal := m ((c : Thread nD τ).loc main_arg5) (ix3 h q p)
/-- The heads' biases. -/
def argSb (h : Fin 4) (q : Fin 128) : EReal := m ((c : Thread nD τ).loc main_arg6) (ix2 h q)

/-! ## The arrays the host prepares -/

/-- The residual stream by quarters. -/
theorem V_x (b : Fin 8) (j : Fin 4) (s l : Fin 1024) : V m c main_v36 (ix4 b j s l) = argX m c b (posi j s) l := by
  unfold V
  simp only [hostOps0, hostOps0_1, hostOps0_2, List.flatten_cons, List.flatten_nil, List.append_nil, List.cons_append, List.nil_append]
  after_reads_simp
  pointwise [argX, posi]

theorem V_g (l : Fin 1024) : V m c main_v18 (ix2 0 l) = argG m c l := by
  unfold V
  simp only [hostOps0, hostOps0_1, hostOps0_2, List.flatten_cons, List.flatten_nil, List.append_nil, List.cons_append, List.nil_append]
  after_reads_simp
  pointwise [argG]

theorem V_w (k : Fin 1024) (n : Fin 2560) : V m c main_v19 (ix2 k n) = argW m c k n := by
  entry_read
  rfl

theorem V_vg (l : Fin 512) : V m c main_v20 (ix2 0 l) = argVg m c l := by
  unfold V
  simp only [hostOps0, hostOps0_1, hostOps0_2, List.flatten_cons, List.flatten_nil, List.append_nil, List.cons_append, List.nil_append]
  after_reads_simp
  pointwise [argVg]

theorem V_sw (h : Fin 4) (q p : Fin 128) : V m c main_v21 (ix3 h q p) = argSw m c h q p := by
  entry_read
  rfl

/-- A head's bias, the same in every lane. -/
theorem V_sb (h : Fin 4) (q l : Fin 128) : V m c main_v17 (ix3 h q l) = argSb m c h q := by
  unfold V
  simp only [hostOps0, hostOps0_1, hostOps0_2, List.flatten_cons, List.flatten_nil, List.append_nil, List.cons_append, List.nil_append]
  after_reads_simp
  pointwise [argSb]

/-! ## The windows -/

theorem index_facts : ∀ t : Fin cfg0.N,
    win0_0.index t = ![(bOf t).val, 0, (nOf t).val, 0] ∧ win0_1.index t = ![(bOf t).val, 0, 0] ∧
    win0_2.index t = ![0, 0] ∧ win0_3.index t = ![0, 0] ∧ win0_4.index t = ![0, 0] ∧
    win0_5.index t = ![0, 0, 0] ∧ win0_6.index t = ![0, 0, 0] ∧
    win0_10.index t = ![(bOf t).val, 0, (nOf t).val, 0] ∧ win0_11.index t = ![(bOf t).val, 0, (nOf t).val, 0] :=
  (by decide +kernel : ∀ t : Fin grid0.N, _)

theorem read0 (X : Buf (Elt Ideal) ((c : Thread nD τ).loc main_v36)) (j : Fin 4) (s : Fin 256) (l : Fin 1024) :
    ((cfg0.win 0).blk t).view.read (Elt Ideal) X (ix4 0 j s l) = X (ix4 (bOf t) j (rowIn t s) l) := by
  have h := (index_facts t).1
  unfold rowIn
  blk_ext [h]
theorem blk0 (j : Fin 4) (s : Fin 256) (l : Fin 1024) :
    iblk m c 0 t (ix4 0 j s l) = argX m c (bOf t) (posi j (rowIn t s)) l :=
  (read0 c t (V m c main_v36) j s l).trans (V_x m c (bOf t) j (rowIn t s) l)

theorem read1 (X : Buf (Elt Ideal) ((c : Thread nD τ).loc main_arg1)) (l : Fin 3072) :
    ((cfg0.win 1).blk t).view.read (Elt Ideal) X (ix3 0 0 l) = X (ix3 ⟨(bOf t).val, by have := (bOf t).isLt; omega⟩ 0 l) := by
  have h := (index_facts t).2.1
  blk_ext [h]
theorem blk1 (l : Fin 3072) :
    iblk m c 1 t (ix3 0 0 l) = argMod m c ⟨(bOf t).val, by have := (bOf t).isLt; omega⟩ l :=
  (read1 c t (V m c main_arg1) l).trans (by entry_read; rfl)

theorem read2 (X : Buf (Elt Ideal) ((c : Thread nD τ).loc main_v18)) (l : Fin 1024) :
    ((cfg0.win 2).blk t).view.read (Elt Ideal) X (ix2 0 l) = X (ix2 0 l) := by
  have h := (index_facts t).2.2.1
  blk_ext [h]
theorem blk2 (l : Fin 1024) : iblk m c 2 t (ix2 0 l) = argG m c l :=
  (read2 c t (V m c main_v18) l).trans (V_g m c l)

theorem read3 (X : Buf (Elt Ideal) ((c : Thread nD τ).loc main_v19)) (k : Fin 1024) (n : Fin 2560) :
    ((cfg0.win 3).blk t).view.read (Elt Ideal) X (ix2 k n) = X (ix2 k n) := by
  have h := (index_facts t).2.2.2.1
  blk_ext [h]
theorem blk3 (k : Fin 1024) (n : Fin 2560) : iblk m c 3 t (ix2 k n) = argW m c k n :=
  (read3 c t (V m c main_v19) k n).trans (V_w m c k n)

theorem read4 (X : Buf (Elt Ideal) ((c : Thread nD τ).loc main_v20)) (l : Fin 512) :
    ((cfg0.win 4).blk t).view.read (Elt Ideal) X (ix2 0 l) = X (ix2 0 l) := by
  have h := (index_facts t).2.2.2.2.1
  blk_ext [h]
theorem blk4 (l : Fin 512) : iblk m c 4 t (ix2 0 l) = argVg m c l :=
  (read4 c t (V m c main_v20) l).trans (V_vg m c l)

theorem read5 (X : Buf (Elt Ideal) ((c : Thread nD τ).loc main_v21)) (h : Fin 4) (q p : Fin 128) :
    ((cfg0.win 5).blk t).view.read (Elt Ideal) X (ix3 h q p) = X (ix3 h q p) := by
  have h := (index_facts t).2.2.2.2.2.1
  blk_ext [h]
theorem blk5 (h : Fin 4) (q p : Fin 128) : iblk m c 5 t (ix3 h q p) = argSw m c h q p :=
  (read5 c t (V m c main_v21) h q p).trans (V_sw m c h q p)

theorem read6 (X : Buf (Elt Ideal) ((c : Thread nD τ).loc main_v17)) (h : Fin 4) (q p : Fin 128) :
    ((cfg0.win 6).blk t).view.read (Elt Ideal) X (ix3 h q p) = X (ix3 h q p) := by
  have h := (index_facts t).2.2.2.2.2.2.1
  blk_ext [h]
theorem blk6 (h : Fin 4) (q p : Fin 128) : iblk m c 6 t (ix3 h q p) = argSb m c h q :=
  (read6 c t (V m c main_v17) h q p).trans (V_sb m c h q p)

end Cert.Ab

end
-- ==== Proof.AbWhole.lean ====
/- The gMLP call's result arrays after the run. -/
module

public import proofs.«01_k».proof.Proof.AbPoint
public import proofs.«01_k».proof.Proof.AbBlocks

@[expose] public section

set_option maxRecDepth 16384

noncomputable section

namespace Cert.Ab

open Idealize.ShloMosaic Idealize.ShloMosaic.TcCoe Idealize.SL.Sem Cert.Kernel3Ideal Cert.Kernel3Ideal.Gen Cert.InC

/-- A block stored by heads and chunks, read at an index. -/
theorem a_tiles (a : Fin 4 → Fin 8 → FVec Ideal S1x1x128x128 .bf16) (G : S1x4x256x512.Idx → EReal)
    (h : ∀ (hd : Fin 4) (k : Fin 8) (q l : Fin 128), a hd k (ix4 0 0 q l) =
      G (ix4 0 ⟨k.val / 2, by omega⟩ ⟨k.val % 2 * 128 + q.val, by omega⟩ ⟨hd.val * 128 + l.val, by omega⟩))
    (y : S1x4x256x512.Idx) :
    View.canon (Val := Elt Ideal) (s := S1x4x256x512) (e := .bf16) [⟨r0_41, a 3 7⟩, ⟨r0_40, a 3 6⟩, ⟨r0_39, a 3 5⟩, ⟨r0_38, a 3 4⟩,
      ⟨r0_37, a 3 3⟩, ⟨r0_36, a 3 2⟩, ⟨r0_35, a 3 1⟩,
      ⟨r0_34, a 3 0⟩, ⟨r0_32, a 2 7⟩, ⟨r0_31, a 2 6⟩, ⟨r0_30, a 2 5⟩, ⟨r0_29, a 2 4⟩, ⟨r0_28, a 2 3⟩, ⟨r0_27, a 2 2⟩, ⟨r0_26, a 2 1⟩,
      ⟨r0_25, a 2 0⟩, ⟨r0_23, a 1 7⟩, ⟨r0_22, a 1 6⟩, ⟨r0_21, a 1 5⟩, ⟨r0_20, a 1 4⟩, ⟨r0_19, a 1 3⟩, ⟨r0_18, a 1 2⟩, ⟨r0_17, a 1 1⟩,
      ⟨r0_16, a 1 0⟩, ⟨r0_14, a 0 7⟩, ⟨r0_13, a 0 6⟩, ⟨r0_12, a 0 5⟩, ⟨r0_11, a 0 4⟩, ⟨r0_10, a 0 3⟩, ⟨r0_9, a 0 2⟩, ⟨r0_8, a 0 1⟩,
      ⟨r0_7, a 0 0⟩] y = G y := by
  have key : ∀ (hd : Fin 4) (k : Fin 8) (x : S1x1x128x128.Idx), a hd k x =
      G (ix4 0 ⟨k.val / 2, by omega⟩ ⟨k.val % 2 * 128 + (x 2).val, by
        have : (x 2).val < 128 := (x 2).isLt
        omega⟩ ⟨hd.val * 128 + (x 3).val, by
        have : (x 3).val < 128 := (x 3).isLt
        omega⟩) := fun hd k x =>
    (congrArg (a hd k) (show x = ix4 (0 : Fin 1) (0 : Fin 1) (x 2) (x 3) by ext b; fin_cases b <;> simp <;> omega)).trans
      (h hd k (x 2) (x 3))
  canon_tiles x hx <;> refine (key _ _ x).trans (congrArg G ?_) <;> (ext b; fin_cases b <;> simp <;> omega)

/-- A block stored whole. -/
theorem b_tile (a : FVec Ideal S1x4x256x512 .bf16) (G : S1x4x256x512.Idx → EReal)
    (h : ∀ (j : Fin 4) (s : Fin 256) (l : Fin 512), a (ix4 0 j s l) = G (ix4 0 j s l)) (y : S1x4x256x512.Idx) :
    View.canon (Val := Elt Ideal) (s := S1x4x256x512) (e := .bf16) [⟨r0_42, a⟩] y = G y := by
  canon_tiles x hx
  exact (congrArg a (show x = ix4 (0 : Fin 1) (x 1) (x 2) (x 3) by ext b; fin_cases b <;> simp <;> omega)).trans
    ((h (x 1) (x 2) (x 3)).trans (congrArg G (by ext b; fin_cases b <;> simp <;> omega)))

variable (m : (ℓ : Loc nD τ sig) → Buf (Elt Ideal) ℓ) (c : Dev nD)

/-- A row of the projection, of the arguments. -/
def rowOf (b : Fin 8) (p : Fin 4096) : Fin 2560 → EReal :=
  proj (argX m c b p) (argMod m c ⟨b.val, by omega⟩) (argG m c) (argW m c)

/-- The projection at a grid point. -/
def zAt (t : Fin cfg0.N) : FVec Ideal S1024x2560 .f32 :=
  k0_pay263 (iblk m c 0 t) (iblk m c 1 t) (iblk m c 2 t) (iblk m c 3 t) (iblk m c 4 t) (iblk m c 5 t) (iblk m c 6 t) (iblk m c 7 t)
    (iblk m c 8 t) (iblk m c 9 t)

/-- The normed rows at a grid point. -/
def vAt (t : Fin cfg0.N) : FVec Ideal S1024x512 .bf16 :=
  k0_pay267 (iblk m c 0 t) (iblk m c 1 t) (iblk m c 2 t) (iblk m c 3 t) (iblk m c 4 t) (iblk m c 5 t) (iblk m c 6 t) (iblk m c 7 t)
    (iblk m c 8 t) (iblk m c 9 t)

/-- The position of a row of the projection at a grid point. -/
def posOf (t : Fin cfg0.N) (r : Fin 1024) : Fin 4096 := posi ⟨r.val / 256, by omega⟩ (rowIn t ⟨r.val % 256, by omega⟩)

theorem row_apply (t : Fin cfg0.N) (r : Fin 1024) (n : Fin 2560) :
    zAt m c t (ix2 r n) = rowOf m c (bOf t) (posOf t r) n := by
  refine (z_apply _ _ _ _ _ _ _ _ _ _ r n).trans ?_
  unfold rowOf posOf
  congr 1
  · exact funext fun k => blk0 m c t _ _ k
  · exact funext fun l => blk1 m c t l
  · exact funext fun k => blk2 m c t k
  · exact funext fun k => funext fun n => blk3 m c t k n

theorem norm_row (t : Fin cfg0.N) (r : Fin 1024) (j : Fin 512) :
    vAt m c t (ix2 r j) = lnorm (rowOf m c (bOf t) (posOf t r)) (argVg m c) j := by
  refine (vn_apply _ _ _ _ _ _ _ _ _ _ r j).trans ?_
  exact congrArg₂ (fun z g => lnorm z g j) (funext fun n => row_apply m c t r n) (funext fun l => blk4 m c t l)

/-- A piece stored at a grid point. -/
theorem piece_out (t : Fin cfg0.N) (hd : Fin 4) (k : Fin 8) (q l : Fin 128) :
    piece hd k (zAt m c t) (vAt m c t) (ldHead (iblk m c 5 t) hd) (ldHead (iblk m c 6 t) hd) (ix4 0 0 q l) =
      outAt (rowOf m c (bOf t)) (argVg m c) (argSw m c) (argSb m c)
        (posi ⟨k.val / 2, by omega⟩ (rowIn t ⟨k.val % 2 * 128 + q.val, by omega⟩)) ⟨hd.val * 128 + l.val, by omega⟩ := by
  have hp : ∀ p : Fin 128, posOf t ⟨k.val * 128 + p.val, by omega⟩ =
      ⟨(posi ⟨k.val / 2, by omega⟩ (rowIn t ⟨k.val % 2 * 128 + q.val, by omega⟩)).val / 128 * 128 + p.val, by omega⟩ := fun p =>
    Fin.ext (by simp only [posOf, posi, rowIn]; omega)
  have hq : (posi ⟨k.val / 2, by omega⟩ (rowIn t ⟨k.val % 2 * 128 + q.val, by omega⟩)).val % 128 = q.val := by
    simp only [posi, rowIn]; omega
  have hh : (⟨(hd.val * 128 + l.val) / 128, by omega⟩ : Fin 4) = hd := Fin.ext (by dsimp only; omega)
  refine (piece_apply hd k _ _ _ _ q l).trans ?_
  unfold outAt outA
  simp only [row_apply, norm_row, hp, hq, hh]
  have e5 : ∀ p, ldHead (iblk m c 5 t) hd (ix3 0 q p) = argSw m c hd q p := fun p => (ldHead_apply _ hd q p).trans (blk5 m c t hd q p)
  have e6 : ldHead (iblk m c 6 t) hd (ix3 0 q l) = argSb m c hd q := (ldHead_apply _ hd q l).trans (blk6 m c t hd q l)
  simp only [e5, e6, Nat.add_assoc]

/-- The gMLP's array. -/
theorem a_array : (dats m 0 c).arrAt 10 cfg0.N = fun i : S8x4x1024x512.Idx =>
    outAt (rowOf m c (i 0)) (argVg m c) (argSw m c) (argSb m c) (posi (i 1) (i 2)) (i 3) := by
  refine (dats m 0 c).arrAt_eq_of_covers 10 _ (by decide +kernel) fun t ht y => ?_
  blk_simp
  rw [after0_10, out10_eq]
  have h := (index_facts t).2.2.2.2.2.2.2.1
  refine a_tiles _ (fun y => outAt (rowOf m c ((win0_10.blk t).view.emb y 0)) (argVg m c) (argSw m c) (argSb m c)
    (posi ((win0_10.blk t).view.emb y 1) ((win0_10.blk t).view.emb y 2)) ((win0_10.blk t).view.emb y 3)) (fun hd k q l => ?_) y
  have e0 : (win0_10.blk t).view.emb (ix4 (0 : Fin 1) (⟨k.val / 2, by omega⟩ : Fin 4) (⟨k.val % 2 * 128 + q.val, by omega⟩ : Fin 256)
      (⟨hd.val * 128 + l.val, by omega⟩ : Fin 512)) 0 = bOf t := Fin.ext (by blk_simp [h]; simp)
  have e1 : (win0_10.blk t).view.emb (ix4 (0 : Fin 1) (⟨k.val / 2, by omega⟩ : Fin 4) (⟨k.val % 2 * 128 + q.val, by omega⟩ : Fin 256)
      (⟨hd.val * 128 + l.val, by omega⟩ : Fin 512)) 1 = (⟨k.val / 2, by omega⟩ : Fin 4) := Fin.ext (by blk_simp [h])
  have e2 : (win0_10.blk t).view.emb (ix4 (0 : Fin 1) (⟨k.val / 2, by omega⟩ : Fin 4) (⟨k.val % 2 * 128 + q.val, by omega⟩ : Fin 256)
      (⟨hd.val * 128 + l.val, by omega⟩ : Fin 512)) 2 = rowIn t ⟨k.val % 2 * 128 + q.val, by omega⟩ :=
    Fin.ext (by blk_simp [h]; simp [rowIn])
  have e3 : (win0_10.blk t).view.emb (ix4 (0 : Fin 1) (⟨k.val / 2, by omega⟩ : Fin 4) (⟨k.val % 2 * 128 + q.val, by omega⟩ : Fin 256)
      (⟨hd.val * 128 + l.val, by omega⟩ : Fin 512)) 3 = (⟨hd.val * 128 + l.val, by omega⟩ : Fin 512) := Fin.ext (by blk_simp [h])
  dsimp only
  rw [e0, e1, e2, e3]
  exact piece_out m c t hd k q l

/-- The Fourier branch's gate's array. -/
theorem b_array : (dats m 0 c).arrAt 11 cfg0.N = fun i : S8x4x1024x512.Idx =>
    outB (rowOf m c (i 0) (posi (i 1) (i 2))) (i 3) := by
  refine (dats m 0 c).arrAt_eq_of_covers 11 _ (by decide +kernel) fun t ht y => ?_
  blk_simp
  rw [after0_11]
  have h := (index_facts t).2.2.2.2.2.2.2.2
  refine b_tile _ (fun y => outB (rowOf m c ((win0_11.blk t).view.emb y 0)
    (posi ((win0_11.blk t).view.emb y 1) ((win0_11.blk t).view.emb y 2))) ((win0_11.blk t).view.emb y 3)) (fun j s l => ?_) y
  have e0 : (win0_11.blk t).view.emb (ix4 (0 : Fin 1) j s l) 0 = bOf t := Fin.ext (by blk_simp [h]; simp)
  have e1 : (win0_11.blk t).view.emb (ix4 (0 : Fin 1) j s l) 1 = j := Fin.ext (by blk_simp [h])
  have e2 : (win0_11.blk t).view.emb (ix4 (0 : Fin 1) j s l) 2 = rowIn t s := Fin.ext (by blk_simp [h]; simp [rowIn])
  have e3 : (win0_11.blk t).view.emb (ix4 (0 : Fin 1) j s l) 3 = l := Fin.ext (by blk_simp [h])
  dsimp only
  rw [e0, e1, e2, e3]
  refine (gate_apply (zAt m c t) j s l).trans (congrArg (fun z => outB z l) (funext fun n => ?_))
  refine (row_apply m c t _ n).trans (congrArg (fun p => rowOf m c (bOf t) p n) (Fin.ext ?_))
  simp only [posOf, posi, rowIn]
  omega

end Cert.Ab

end
-- ==== Proof.AbRef.lean ====
/- The gMLP's reference, index by index. -/
module

public import proofs.«01_k».proof.Proof.AbSpec
public import proofs.«01_k».proof.Proof.Gen.Reference3Ideal.Read
public import Idealize.ShloMosaic.Lib.Pointwise

@[expose] public section

set_option maxRecDepth 16384

noncomputable section

namespace Cert.Ab.Ref

open Idealize.ShloMosaic Idealize.ShloMosaic.TcCoe Idealize.SL.Sem Cert.Reference3Ideal Cert.Reference3Ideal.Gen
open Cert.Reference3Ideal.Read Cert.InC

variable (x : FVec Ideal S8x4096x1024 .f32) (mod : FVec Ideal S16x1x3072 .f32) (g : FVec Ideal S1024 .f32)
  (w : FVec Ideal S1024x2560 .f32) (vg : FVec Ideal S512 .f32) (sw : FVec Ideal S4x128x128 .f32) (sb : FVec Ideal S4x128 .f32)

theorem hid_apply (b : Fin 8) (r : Fin 4096) (k : Fin 1024) : val_main_v22 (F := Ideal) x mod g (ix3 b r k) =
    hid (fun k => x (ix3 b r k)) (fun l => mod (ix3 ⟨b.val, by omega⟩ 0 l)) (fun k => g (ix1 k)) k := by
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v2, val_main_v1, val_main_v0, val_main_cst, val_main_cst_0, val_main_cst_1, val_main_cst_2]
  rfl

/-- The projection of the arguments' arrays. -/
def projOf (b : Fin 8) (r : Fin 4096) (n : Fin 2560) : EReal :=
  proj (fun k => x (ix3 b r k)) (fun l => mod (ix3 ⟨b.val, by omega⟩ 0 l)) (fun k => g (ix1 k)) (fun k n => w (ix2 k n)) n

theorem proj_apply (b : Fin 8) (r : Fin 4096) (n : Fin 2560) :
    val_main_v23 (F := Ideal) x mod g w (ix3 b r n) = projOf x mod g w b r n := by
  pointwise [val_main_v23, hid_apply]
  rfl

theorem u_apply (b : Fin 8) (r : Fin 4096) (l : Fin 512) :
    val_main_v24 (F := Ideal) x mod g w (ix3 b r l) = projOf x mod g w b r ⟨l.val, by omega⟩ := by
  pointwise [val_main_v24, proj_apply]

theorem v_apply (b : Fin 8) (r : Fin 4096) (l : Fin 512) :
    val_main_v25 (F := Ideal) x mod g w (ix3 b r l) = projOf x mod g w b r ⟨512 + l.val, by omega⟩ := by
  pointwise [val_main_v25, proj_apply]

theorem ga_apply (b : Fin 8) (r : Fin 4096) (l : Fin 512) :
    val_main_v26 (F := Ideal) x mod g w (ix3 b r l) = projOf x mod g w b r ⟨1024 + l.val, by omega⟩ := by
  pointwise [val_main_v26, proj_apply]

theorem gb_apply (b : Fin 8) (r : Fin 4096) (l : Fin 512) :
    val_main_v28 (F := Ideal) x mod g w (ix3 b r l) = projOf x mod g w b r ⟨2048 + l.val, by omega⟩ := by
  pointwise [val_main_v28, proj_apply]

theorem mean_apply (b : Fin 8) (r : Fin 4096) : val_main_v32 (F := Ideal) x mod g w (ix3 b r 0) =
    Ideal.div (∑ i : Fin 512, projOf x mod g w b r ⟨512 + i.val, by omega⟩) (Ideal.ofBits .f32 0x44000000#32) := by
  pointwise [val_main_v32, val_main_v31, val_main_v30, val_main_v29, val_main_cst_3, val_main_cst_4, v_apply]

theorem center_apply (b : Fin 8) (r : Fin 4096) (l : Fin 512) : val_main_v34 (F := Ideal) x mod g w (ix3 b r l) =
    center (projOf x mod g w b r) l := by
  pointwise [val_main_v34, val_main_v33, v_apply, mean_apply]
  rfl

theorem norm_apply (b : Fin 8) (r : Fin 4096) (l : Fin 512) : val_main_v47 (F := Ideal) x mod g w vg (ix3 b r l) =
    lnorm (projOf x mod g w b r) (fun l => vg (ix1 l)) l := by
  pointwise [val_main_v47, val_main_v46, val_main_v45, val_main_v44, val_main_v43, val_main_v42, val_main_v41, val_main_v40,
    val_main_v39, val_main_v38, val_main_v37, val_main_v36, val_main_v35, val_main_cst_5, val_main_cst_6, val_main_cst_7, center_apply]
  rfl

/-- The normed rows by chunk and head. -/
theorem chunk_apply (K : FVec Ideal S8x4096x512 .f32) (b : Fin 8) (n : Fin 32) (p : Fin 128) (h : Fin 4) (l : Fin 128) :
    shapeCast S8x32x128x4x128 K shapeCasts_S8x4096x512_S8x32x128x4x128 (ix5 b n p h l) =
      K (ix3 b ⟨n.val * 128 + p.val, by omega⟩ ⟨h.val * 128 + l.val, by omega⟩) := by
  pointwise []

/-- The biases at a chunk's row and a head. -/
theorem bias_apply (b : Fin 8) (n : Fin 32) (q : Fin 128) (h : Fin 4) (l : Fin 128) :
    val_main_v54 (F := Ideal) sb (ix5 b n q h l) = sb (ix2 h q) := by
  pointwise [val_main_v54, val_main_v53, val_main_v52, val_main_v51]

theorem mix_apply (K : FVec Ideal S8x32x128x4x128 .f32) (b : Fin 8) (n : Fin 32) (q : Fin 128) (h : Fin 4) (l : Fin 128) :
    transpose S8x32x128x4x128 [2, 3, 1, 0, 4]
        (Host.dotGeneral dot_S4x128x128_S8x32x128x4x128_S4x128x8x32x128_2_2_1_014_0_3 none sw K)
        transposes_S4x128x8x32x128_S8x32x128x4x128_2_3_1_0_4 (ix5 b n q h l) =
      ∑ p : Fin 128, sw (ix3 h q p) * K (ix5 b n p h l) := by
  pointwise []

/-- The chunks in one sequence again. -/
theorem join_apply (K : FVec Ideal S8x32x128x4x128 .f32) (b : Fin 8) (r : Fin 4096) (l : Fin 512) :
    shapeCast S8x4096x512 K shapeCasts_S8x32x128x4x128_S8x4096x512 (ix3 b r l) =
      K (ix5 b ⟨r.val / 128, by omega⟩ ⟨r.val % 128, by omega⟩ ⟨l.val / 128, by omega⟩ ⟨l.val % 128, by omega⟩) := by
  pointwise []

/-- The mixed rows. -/
theorem mixed_apply (b : Fin 8) (r : Fin 4096) (l : Fin 512) : val_main_v56 (F := Ideal) x mod g w vg sw sb (ix3 b r l) =
    (∑ p : Fin 128, sw (ix3 ⟨l.val / 128, by omega⟩ ⟨r.val % 128, by omega⟩ p) *
      lnorm (projOf x mod g w b ⟨r.val / 128 * 128 + p.val, by omega⟩) (fun l => vg (ix1 l)) l)
    + sb (ix2 ⟨l.val / 128, by omega⟩ ⟨r.val % 128, by omega⟩) := by
  refine (join_apply (val_main_v55 (F := Ideal) x mod g w vg sw sb) b r l).trans ?_
  refine congrArg₂ (fun a b : EReal => a + b) ?_ (bias_apply sb _ _ _ _ _)
  refine (mix_apply sw (val_main_v48 (F := Ideal) x mod g w vg) _ _ _ _ _).trans ?_
  refine Finset.sum_congr rfl fun p _ => congrArg _ ?_
  refine (chunk_apply (val_main_v47 (F := Ideal) x mod g w vg) _ _ _ _ _).trans ?_
  have e : (⟨l.val / 128 * 128 + l.val % 128, by omega⟩ : Fin 512) = l := Fin.ext (by dsimp only; omega)
  exact (congrArg (fun l => val_main_v47 (F := Ideal) x mod g w vg (ix3 b ⟨r.val / 128 * 128 + p.val, by omega⟩ l)) e).trans
    (norm_apply x mod g w vg b _ l)

theorem silu_apply (Z : FVec Ideal S8x4096x512 .f32) (b : Fin 8) (r : Fin 4096) (l : Fin 512) :
    mulf Z (Host.divf (val_main_call0_v4 (F := Ideal)) (addf (val_main_call0_v2 (F := Ideal))
      (Host.exp (Host.negf Z)))) (ix3 b r l) = silu (Z (ix3 b r l)) := by
  pointwise [val_main_call0_v4, val_main_call0_v2, val_main_call0_cst, val_main_call0_cst_0]
  rfl

theorem silu_apply' (Z : FVec Ideal S8x4096x512 .f32) (b : Fin 8) (r : Fin 4096) (l : Fin 512) :
    mulf Z (Host.divf (val_main_call1_v4 (F := Ideal)) (addf (val_main_call1_v2 (F := Ideal))
      (Host.exp (Host.negf Z)))) (ix3 b r l) = silu (Z (ix3 b r l)) := by
  pointwise [val_main_call1_v4, val_main_call1_v2, val_main_call1_cst, val_main_call1_cst_0]
  rfl

/-- A result by quarters of the sequence. -/
theorem quarter_apply (Z : FVec Ideal S8x4096x512 .f32) (b : Fin 8) (j : Fin 4) (s : Fin 1024) (l : Fin 512) :
    shapeCast S8x4x1024x512 (truncf (F := Ideal) .bf16 Z bitsLt_bf16_f32) shapeCasts_S8x4096x512_S8x4x1024x512 (ix4 b j s l) =
      Z (ix3 b (posi j s) l) := by
  pointwise []
  rfl

/-- The gMLP's result. -/
theorem out_a (b : Fin 8) (j : Fin 4) (s : Fin 1024) (l : Fin 512) :
    val_main_v61 (F := Ideal) x mod g w vg sw sb (ix4 b j s l) =
      outAt (projOf x mod g w b) (fun l => vg (ix1 l)) (fun h q p => sw (ix3 h q p)) (fun h q => sb (ix2 h q)) (posi j s) l := by
  refine (quarter_apply (val_main_v59 (F := Ideal) x mod g w vg sw sb) b j s l).trans ?_
  generalize posi j s = r
  refine congrArg₂ (fun a b : EReal => a * b) (congrArg₂ (fun a b : EReal => a * b) (u_apply x mod g w b r l)
    (mixed_apply x mod g w vg sw sb b r l))
    ((silu_apply (val_main_v26 (F := Ideal) x mod g w) b r l).trans (congrArg silu (ga_apply x mod g w b r l))) |>.trans ?_
  unfold outAt outA
  have e : (⟨r.val / 128 * 128 + r.val % 128, by omega⟩ : Fin 4096) = r := Fin.ext (by dsimp only; omega)
  simp only [e]

/-- The gate's result. -/
theorem out_b (b : Fin 8) (j : Fin 4) (s : Fin 1024) (l : Fin 512) :
    val_main_v64 (F := Ideal) x mod g w (ix4 b j s l) = outB (projOf x mod g w b (posi j s)) l :=
  (quarter_apply (val_main_v62 (F := Ideal) x mod g w) b j s l).trans
    ((silu_apply' (val_main_v28 (F := Ideal) x mod g w) b (posi j s) l).trans (congrArg silu (gb_apply x mod g w b (posi j s) l)))

end Cert.Ab.Ref

end
-- ==== Proof.AbFinal.lean ====
/- The value claim of the gMLP call. -/
module

public import proofs.«01_k».proof.Defs
public import proofs.«01_k».proof.Proof.AbWhole
public import proofs.«01_k».proof.Proof.AbRef

@[expose] public section

set_option maxRecDepth 16384

noncomputable section

namespace Cert.Ab

open Idealize.ShloMosaic Idealize.ShloMosaic.TcCoe Idealize.SL.Sem

/-- Both idealized programs leave the same gated gMLP output and the same gate from the same arguments. -/
theorem values_agree : Cert.algebraic_Kernel3Ideal_Reference3Ideal (hKernel3Ideal := Cert.Kernel3Ideal.Gen.facts)
    (hReference3Ideal := Cert.Reference3Ideal.Gen.facts) := by
  intro m g m' g' _ hagree
  refine ⟨fun c => fun i : Cert.Kernel3Ideal.S8x4x1024x512.Idx =>
      outAt (rowOf m c (i 0)) (argVg m c) (argSw m c) (argSb m c) (posi (i 1) (i 2)) (i 3),
    fun c => fun i : Cert.Kernel3Ideal.S8x4x1024x512.Idx => outB (rowOf m c (i 0) (posi (i 1) (i 2))) (i 3), ?_, ?_⟩
  · refine (θ_run Cert.Kernel3Ideal.defs _ _).mono (fun r h c => ?_)
      (θ_run_and (Cert.Kernel3Ideal.Gen.run_main (F := Ideal) m g) (Cert.Kernel3Ideal.Gen.unchanged (F := Ideal) m g))
    exact ⟨((h.1 c).1 10).trans (a_array m c), ((h.1 c).1 11).trans (b_array m c), h.2 c⟩
  · refine (θ_run Cert.Reference3Ideal.defs _ _).mono (fun r h c => ?_) (Cert.Reference3Ideal.Value.run (F := Ideal) m' g')
    obtain ⟨h0, h1, hk⟩ := h c
    obtain ⟨a0, a1, a2, a3, a4, a5, a6⟩ := hagree c
    refine ⟨h0.trans ?_, h1.trans ?_, hk⟩
    · refine (Cert.Reference3Ideal.Read.val_main_v61_eq (F := Ideal) m' c).trans
        ((congr (congr (congr (congr (congr (congr (congrArg (Cert.Reference3Ideal.Read.val_main_v61 (F := Ideal)) a0) a1) a2) a3) a4)
          a5) a6).trans (funext fun i => ?_))
      exact (congrArg _ (eq_ix4 i)).trans (Ref.out_a _ _ _ _ _ _ _ (i 0) (i 1) (i 2) (i 3))
    · refine (Cert.Reference3Ideal.Read.val_main_v64_eq (F := Ideal) _ _ _ _).trans
        ((congr (congr (congr (congrArg (Cert.Reference3Ideal.Read.val_main_v64 (F := Ideal)) a0) a1) a2) a3).trans (funext fun i => ?_))
      exact (congrArg _ (eq_ix4 i)).trans (Ref.out_b _ _ _ _ (i 0) (i 1) (i 2) (i 3))

end Cert.Ab

end
-- ==== Proof.DftSpec.lean ====
/- The mathematics of the call that ends the Fourier branch: the transform's last factor, the gate, and the output projection. -/
module

public import Idealize.ShloMosaic.Lib.Pointwise

@[expose] public section

noncomputable section

namespace Cert.Dft

open Idealize.ShloMosaic

/-- The angle of an entry of the transform over 1024 points. -/
def ang (k l : Fin 1024) : EReal :=
  Ideal.div (Ideal.ofBits .f32 0x40C90FDB#32 * (FloatOps.sitofp (F := Ideal) FTy.f32 (BitVec.ofNat 32 k.val)
    * FloatOps.sitofp (F := Ideal) FTy.f32 (BitVec.ofNat 32 l.val))) (Ideal.ofBits .f32 0x44800000#32)

/-- The real part of an entry of the transform's matrix. -/
def wRe (k l : Fin 1024) : EReal := Ideal.cos (ang k l) * Ideal.ofBits .f32 0x3AB504F3#32
/-- The imaginary part of an entry of the transform's matrix. -/
def wIm (k l : Fin 1024) : EReal := -Ideal.sin (ang k l) * Ideal.ofBits .f32 0x3AB504F3#32

/-- The transform at frequency `k` of one column, from its input's two parts. -/
def freq (u v : Fin 1024 → EReal) (k : Fin 1024) : EReal := (∑ l, wRe k l * u l) + ∑ l, wIm k l * v l

/-- A row of the output: the stream plus the gated projection of the two branches' lanes side by side. -/
def out (f ya sg : Fin 512 → EReal) (x gate : Fin 1024 → EReal) (w : Fin 1024 → Fin 1024 → EReal) (n : Fin 1024) : EReal :=
  x n + gate n * ((∑ j : Fin 512, ya j * w ⟨j.val, by omega⟩ n) + ∑ j : Fin 512, f j * sg j * w ⟨512 + j.val, by omega⟩ n)

/-- A sum over two halves. -/
theorem sum_halves {n : ℕ} (g : Fin (n + n) → EReal) :
    ∑ k, g k = (∑ k : Fin n, g ⟨k.val, by omega⟩) + ∑ k : Fin n, g ⟨n + k.val, by omega⟩ := by
  rw [Fin.sum_univ_add]
  rfl

end Cert.Dft

end
-- ==== Proof.DftPoint.lean ====
/- What a grid point of the call that ends the Fourier branch stores, index by index. -/
module

public import proofs.«01_k».proof.Proof.DftSpec
public import proofs.«01_k».proof.Proof.Gen.Kernel4Ideal.Frame
public import Idealize.ShloMosaic.Lib.Pipeline.StridedRows

@[expose] public section

set_option maxRecDepth 16384

noncomputable section

namespace Cert.Dft

open Idealize.ShloMosaic Idealize.ShloMosaic.TcCoe Idealize.SL.Sem Cert.Kernel4Ideal Cert.Kernel4Ideal.Gen

/-! ## The staged transform: four residues of rows, four groups of lanes -/

/-- What is stored for one group of lanes and one residue of the rows. -/
def part (g : Fin 4) (a : Vec Ideal S256x2048 .f32) (b : Vec Ideal S1x1x2048x512 .bf16) : FVec Ideal S1x256x128 .f32 :=
  shapeCast S1x256x128 (extractStridedSlice S256x128 ![0, g.val * 128] (k0_pay2 (F := Ideal) a b)
    ⟨rfl, by intro a; fin_cases a <;> simp [Shape.size] <;> omega⟩) shapeCasts_S256x128_S1x256x128

/-- The product a residue's rows are cut from. -/
theorem prod_apply (a : Vec Ideal S256x2048 .f32) (b : Vec Ideal S1x1x2048x512 .bf16) (n : Fin 256) (l : Fin 512) :
    k0_pay2 (F := Ideal) a b (ix2 n l) = ∑ q : Fin 2048, a (ix2 n q) * b (ix4 0 0 q l) := by
  pointwise [k0_pay2, k0_pay1]

theorem part_apply (g : Fin 4) (a : Vec Ideal S256x2048 .f32) (b : Vec Ideal S1x1x2048x512 .bf16) (n : Fin 256) (l : Fin 128) :
    part g a b (ix3 0 n l) = ∑ q : Fin 2048, a (ix2 n q) * b (ix4 0 0 q ⟨g.val * 128 + l.val, by omega⟩) := by
  pointwise [part, prod_apply]

/-- The pieces staged, last first. -/
def staged (a : Vec Ideal S256x2048 .f32) (b : Fin 4 → Vec Ideal S1x1x2048x512 .bf16) :
    List (View.Piece (Elt Ideal) S4x1024x128 .f32) :=
  [3, 2, 1, 0].flatMap fun k : Fin 4 => [3, 2, 1, 0].map fun g : Fin 4 =>
    ⟨StridedRows.rowRect (C := 4) (N := 256) (DP := 4) (D := 4) (L := 128) le_rfl g k, part g a (b k)⟩

/-- The value meant at a group, a residue, a row and a lane. -/
def meant (a : Vec Ideal S256x2048 .f32) (b : Fin 4 → Vec Ideal S1x1x2048x512 .bf16) (g k : Fin 4) (n : Fin 256) (l : Fin 128) :
    EReal :=
  ∑ q : Fin 2048, a (ix2 n q) * b k (ix4 0 0 q ⟨g.val * 128 + l.val, by omega⟩)

/-- The staging array, read in its natural order. -/
theorem staged_apply (a : Vec Ideal S256x2048 .f32) (b : Fin 4 → Vec Ideal S1x1x2048x512 .bf16) (g : Fin 4) (r : Fin 1024)
    (l : Fin 128) : View.canon (staged a b) (ix3 g r l) = meant a b g ⟨r.val % 4, by omega⟩ ⟨r.val / 4, by omega⟩ l := by
  refine (View.canon_apply_of_pieces (Val := Elt Ideal) (S := S4x1024x128) (e := .f32)
    (StridedRows.planeValue (Val := Elt Ideal) (e := .f32) (C := 4) (N := 256) (DP := 4) (D := 4) (L := 128) (meant a b)) _
    (fun p hp x => ?_) _ ⟨⟨StridedRows.rowRect (C := 4) (N := 256) (DP := 4) (D := 4) (L := 128) le_rfl g ⟨r.val % 4, by omega⟩,
      part g a (b ⟨r.val % 4, by omega⟩)⟩, ?_, ?_⟩).trans ?_
  · obtain ⟨k, -, hp⟩ := List.mem_flatMap.mp hp
    obtain ⟨g', -, rfl⟩ := List.mem_map.mp hp
    refine StridedRows.rowRect_payload_eq_planeValue (Val := Elt Ideal) (e := .f32) (meant a b) le_rfl g' k _ (fun x => ?_) x
    exact (congrArg (part g' a (b k)) (show x = ix3 (0 : Fin 1) (x 1) (x 2) by ext b; fin_cases b <;> simp <;> omega)).trans
      (part_apply g' a (b k) (x 1) (x 2))
  · have all : ∀ k : Fin 4, k ∈ [3, 2, 1, 0] := by decide
    exact List.mem_flatMap.mpr ⟨_, all _, List.mem_map.mpr ⟨g, all g, rfl⟩⟩
  · rw [LoadRect.mem_set]
    intro d
    match d with
    | ⟨0, _⟩ => exact ⟨0, Nat.one_pos, show g.val = g.val + 1 * 0 by omega⟩
    | ⟨1, _⟩ => exact ⟨r.val / 4, show r.val / 4 < 256 by omega, show r.val = r.val % 4 + 4 * (r.val / 4) by omega⟩
    | ⟨2, _⟩ => exact ⟨l.val, l.isLt, show l.val = 0 + 1 * l.val by omega⟩
  · unfold StridedRows.planeValue
    exact dif_pos (c := r.val % 4 < 4 ∧ r.val / 4 < 256) ⟨by omega, by omega⟩

/-! ## The end of a grid point -/

theorem pick (f : Fin 4 → Vec Ideal S1x1024x128 .f32) (r : Fin 1024) {g g' : Fin 4} {l l' : Fin 128} (hg : g = g') (hl : l = l') :
    f g (ix3 0 r l) = f g' (ix3 0 r l') := by
  rw [hg, hl]

/-- The end of a grid point: gate, projection, stream. -/
theorem end_apply (f : Fin 4 → Vec Ideal S1x1024x128 .f32) (v91 v96 : Vec Ideal S1x1024x512 .bf16) (v98 v101 : Vec Ideal S512x1024 .bf16)
    (v105 : Vec Ideal S1x1x3072 .f32) (v108 : Vec Ideal S1x1024x1024 .f32) (w : Fin 1024 → Fin 1024 → EReal)
    (h0 : ∀ (j : Fin 512) n, v98 (ix2 j n) = w ⟨j.val, by omega⟩ n) (h1 : ∀ (j : Fin 512) n, v101 (ix2 j n) = w ⟨512 + j.val, by omega⟩ n)
    (r : Fin 1024) (n : Fin 1024) :
    k0_pay26 (F := Ideal) (k0_pay24 (f 0)) (k0_pay25 (f 1)) (f 2) (f 3) v91 v96 v98 v101 v105 v108 (ix3 0 r n) =
      out (fun j => f ⟨j.val / 128, by omega⟩ (ix3 0 r ⟨j.val % 128, by omega⟩)) (fun j => v96 (ix3 0 r j)) (fun j => v91 (ix3 0 r j))
        (fun l => v108 (ix3 0 r l)) (fun l => v105 (ix3 0 0 ⟨2048 + l.val, by omega⟩)) w n := by
  pointwise [k0_pay26, k0_pay24, k0_pay25, out, h0, h1]
  refine congrArg _ (congrArg _ (congrArg _ (Finset.sum_congr rfl fun j _ => ?_)))
  refine congrArg (· * _) (congrArg (· * _) ?_)
  have := j.isLt
  repeat' split
  all_goals exact pick f r (Fin.ext (by dsimp only [Fin.isValue]; simp; omega)) (Fin.ext (by dsimp only; omega))

end Cert.Dft

end
-- ==== Proof.DftBlocks.lean ====
/- The blocks a grid point of the call that ends the Fourier branch reads, at an index, as the arguments. -/
module

public import proofs.«01_k».proof.Proof.DftSpec
public import proofs.«01_k».proof.Proof.Gen.Kernel4Ideal.Frame
public import Idealize.ShloMosaic.Lib.Pointwise
public import Idealize.ShloMosaic.Lib.Pipeline.ValueKit.Point
public import Idealize.ShloMosaic.Lib.StableHlo.RunRead

@[expose] public section

set_option maxRecDepth 16384

noncomputable section

namespace Cert.Dft

open Idealize.ShloMosaic Idealize.ShloMosaic.TcCoe Idealize.SL.Sem Cert.Kernel4Ideal Cert.Kernel4Ideal.Gen

variable (m : (ℓ : Loc nD τ sig) → Buf (Elt Ideal) ℓ) (c : Dev nD) (t : Fin cfg0.N)

/-- The batch of a grid point. -/
def bOf (t : Fin cfg0.N) : Fin 8 := grid0.coords t 0
/-- The stretch of 1024 positions of a grid point. -/
def nOf (t : Fin cfg0.N) : Fin 4 := grid0.coords t 1
/-- The position of a grid point's row. -/
def posOf (t : Fin cfg0.N) (r : Fin 1024) : Fin 4096 := ⟨(nOf t).val * 1024 + r.val, by have := (nOf t).isLt; omega⟩

/-! ## The arguments -/

/-- The first part of the transform's input, by residue. -/
def argU (b : Fin 8) (j : Fin 4) (l : Fin 1024) (e : Fin 512) : EReal := m ((c : Thread nD τ).loc main_arg0) (ix4 b j l e)
/-- The second part of the transform's input, by residue. -/
def argV (b : Fin 8) (j : Fin 4) (l : Fin 1024) (e : Fin 512) : EReal := m ((c : Thread nD τ).loc main_arg1) (ix4 b j l e)
/-- The gMLP's output. -/
def argYa (b : Fin 8) (p : Fin 4096) (l : Fin 512) : EReal := m ((c : Thread nD τ).loc main_arg2) (ix3 b p l)
/-- The Fourier branch's gate. -/
def argSg (b : Fin 8) (p : Fin 4096) (l : Fin 512) : EReal := m ((c : Thread nD τ).loc main_arg3) (ix3 b p l)
/-- The residual stream. -/
def argX (b : Fin 8) (p : Fin 4096) (l : Fin 1024) : EReal := m ((c : Thread nD τ).loc main_arg4) (ix3 b p l)
/-- The modulation. -/
def argMod (b : Fin 16) (l : Fin 3072) : EReal := m ((c : Thread nD τ).loc main_arg5) (ix3 b 0 l)
/-- The output projection's weights. -/
def argW (k n : Fin 1024) : EReal := m ((c : Thread nD τ).loc main_arg6) (ix2 k n)

/-! ## The arrays the host prepares -/

/-- The angles. -/
theorem V_ang (k l : Fin 1024) : V m c main_v14 (ix2 k l) = ang k l := by
  entry_read
  pointwise []
  try rfl

/-- The table of the angles. -/
def angTab : FVec Ideal S1024x1024 .f32 := V m c main_v14

/-- The transform's table, of the angles'. -/
def table (a : FVec Ideal S1024x1024 .f32) : FVec Ideal S1024x2048 .f32 :=
  concatenate S1024x2048 1 [
    ⟨S1024x1024, mulf (Host.cos a) (broadcastInDim S1024x1024 ![] bcast_S_S1024x1024 (constant S_ .f32 0x3AB504F3#32))⟩,
    ⟨S1024x1024, mulf (Host.negf (Host.sin a)) (broadcastInDim S1024x1024 ![] bcast_S_S1024x1024 (constant S_ .f32 0x3AB504F3#32))⟩]
    concatenates_S1024x1024_S1024x1024_S1024x2048_d1

theorem table_apply (a : FVec Ideal S1024x1024 .f32) (h : ∀ k l, a (ix2 k l) = ang k l) (k : Fin 1024) (q : Fin 2048) :
    table a (ix2 k q) = if h : q.val < 1024 then wRe k ⟨q.val, h⟩ else wIm k ⟨q.val - 1024, by omega⟩ := by
  pointwise [table, h]
  rfl

theorem V_table (k : Fin 1024) (q : Fin 2048) :
    V m c main_v22 (ix2 k q) = if h : q.val < 1024 then wRe k ⟨q.val, h⟩ else wIm k ⟨q.val - 1024, by omega⟩ := by
  have h : V m c main_v22 = table (angTab m c) := by
    unfold angTab V hostOps0
    after_reads_simp
    rfl
  exact (congrFun h _).trans (table_apply (angTab m c) (V_ang m c) k q)

theorem V_uv (b : Fin 8) (j : Fin 4) (q : Fin 2048) (e : Fin 512) :
    V m c main_v26 (ix4 b j q e) = if h : q.val < 1024 then argU m c b j ⟨q.val, h⟩ e else argV m c b j ⟨q.val - 1024, by omega⟩ e := by
  entry_read
  pointwise []
  by_cases h : q.val < 1024
  · rw [dif_pos (by omega), dif_pos h]
    exact congrArg (fun k => argU m c b j k e) (Fin.ext (by dsimp only; omega))
  · rw [dif_neg (by omega), dif_neg h]
    exact congrArg (fun k => argV m c b j k e) (Fin.ext (by dsimp only; omega))

theorem V_ya (b : Fin 8) (p : Fin 4096) (l : Fin 512) : V m c main_v23 (ix3 b p l) = argYa m c b p l := by
  entry_read
  rfl

theorem V_sg (b : Fin 8) (p : Fin 4096) (l : Fin 512) : V m c main_v24 (ix3 b p l) = argSg m c b p l := by
  entry_read
  rfl

theorem V_w (k n : Fin 1024) : V m c main_v25 (ix2 k n) = argW m c k n := by
  entry_read
  rfl

/-! ## The windows -/

theorem index_facts : ∀ t : Fin cfg0.N,
    win0_0.index t = ![0, 0] ∧ win0_1.index t = ![(bOf t).val, 0, 0, 0] ∧ win0_2.index t = ![(bOf t).val, (nOf t).val, 0] ∧
    win0_3.index t = ![(bOf t).val, (nOf t).val, 0] ∧ win0_4.index t = ![(bOf t).val, (nOf t).val, 0] ∧
    win0_5.index t = ![(bOf t).val, 0, 0] ∧ win0_6.index t = ![0, 0] ∧ win0_7.index t = ![(bOf t).val, (nOf t).val, 0] :=
  (by decide +kernel : ∀ t : Fin grid0.N, _)

theorem read0 (X : Buf (Elt Ideal) ((c : Thread nD τ).loc main_v22)) (k : Fin 1024) (q : Fin 2048) :
    ((cfg0.win 0).blk t).view.read (Elt Ideal) X (ix2 k q) = X (ix2 k q) := by
  have h := (index_facts t).1
  blk_ext [h]
theorem blk0 (k : Fin 1024) (q : Fin 2048) :
    iblk m c 0 t (ix2 k q) = if h : q.val < 1024 then wRe k ⟨q.val, h⟩ else wIm k ⟨q.val - 1024, by omega⟩ :=
  (read0 c t (V m c main_v22) k q).trans (V_table m c k q)

theorem read1 (X : Buf (Elt Ideal) ((c : Thread nD τ).loc main_v26)) (j : Fin 4) (q : Fin 2048) (e : Fin 512) :
    ((cfg0.win 1).blk t).view.read (Elt Ideal) X (ix4 0 j q e) = X (ix4 (bOf t) j q e) := by
  have h := (index_facts t).2.1
  blk_ext [h]
theorem blk1 (j : Fin 4) (q : Fin 2048) (e : Fin 512) : iblk m c 1 t (ix4 0 j q e) =
    if h : q.val < 1024 then argU m c (bOf t) j ⟨q.val, h⟩ e else argV m c (bOf t) j ⟨q.val - 1024, by omega⟩ e :=
  (read1 c t (V m c main_v26) j q e).trans (V_uv m c (bOf t) j q e)

theorem read2 (X : Buf (Elt Ideal) ((c : Thread nD τ).loc main_v23)) (r : Fin 1024) (l : Fin 512) :
    ((cfg0.win 2).blk t).view.read (Elt Ideal) X (ix3 0 r l) = X (ix3 (bOf t) (posOf t r) l) := by
  have h := (index_facts t).2.2.1
  unfold posOf
  blk_ext [h]
theorem blk2 (r : Fin 1024) (l : Fin 512) : iblk m c 2 t (ix3 0 r l) = argYa m c (bOf t) (posOf t r) l :=
  (read2 c t (V m c main_v23) r l).trans (V_ya m c _ _ l)

theorem read3 (X : Buf (Elt Ideal) ((c : Thread nD τ).loc main_v24)) (r : Fin 1024) (l : Fin 512) :
    ((cfg0.win 3).blk t).view.read (Elt Ideal) X (ix3 0 r l) = X (ix3 (bOf t) (posOf t r) l) := by
  have h := (index_facts t).2.2.2.1
  unfold posOf
  blk_ext [h]
theorem blk3 (r : Fin 1024) (l : Fin 512) : iblk m c 3 t (ix3 0 r l) = argSg m c (bOf t) (posOf t r) l :=
  (read3 c t (V m c main_v24) r l).trans (V_sg m c _ _ l)

theorem read4 (X : Buf (Elt Ideal) ((c : Thread nD τ).loc main_arg4)) (r l : Fin 1024) :
    ((cfg0.win 4).blk t).view.read (Elt Ideal) X (ix3 0 r l) = X (ix3 (bOf t) (posOf t r) l) := by
  have h := (index_facts t).2.2.2.2.1
  unfold posOf
  blk_ext [h]
theorem blk4 (r l : Fin 1024) : iblk m c 4 t (ix3 0 r l) = argX m c (bOf t) (posOf t r) l :=
  (read4 c t (V m c main_arg4) r l).trans (by entry_read; rfl)

theorem read5 (X : Buf (Elt Ideal) ((c : Thread nD τ).loc main_arg5)) (l : Fin 3072) :
    ((cfg0.win 5).blk t).view.read (Elt Ideal) X (ix3 0 0 l) = X (ix3 ⟨(bOf t).val, by have := (bOf t).isLt; omega⟩ 0 l) := by
  have h := (index_facts t).2.2.2.2.2.1
  blk_ext [h]
theorem blk5 (l : Fin 3072) : iblk m c 5 t (ix3 0 0 l) = argMod m c ⟨(bOf t).val, by have := (bOf t).isLt; omega⟩ l :=
  (read5 c t (V m c main_arg5) l).trans (by entry_read; rfl)

theorem read6 (X : Buf (Elt Ideal) ((c : Thread nD τ).loc main_v25)) (k n : Fin 1024) :
    ((cfg0.win 6).blk t).view.read (Elt Ideal) X (ix2 k n) = X (ix2 k n) := by
  have h := (index_facts t).2.2.2.2.2.2.1
  blk_ext [h]
theorem blk6 (k n : Fin 1024) : iblk m c 6 t (ix2 k n) = argW m c k n :=
  (read6 c t (V m c main_v25) k n).trans (V_w m c k n)

end Cert.Dft

end
-- ==== Proof.DftWhole.lean ====
/- The result array of the call that ends the Fourier branch, after the run. -/
module

public import proofs.«01_k».proof.Proof.DftPoint
public import proofs.«01_k».proof.Proof.DftBlocks

@[expose] public section

set_option maxRecDepth 16384

noncomputable section

namespace Cert.Dft

open Idealize.ShloMosaic Idealize.ShloMosaic.TcCoe Idealize.SL.Sem Cert.Kernel4Ideal Cert.Kernel4Ideal.Gen

/-! ## What a grid point stages and stores, of its blocks -/

section
variable (c : Dev nD) (i : grid0.Coords) (a0 : Memref sig .tc .vmem S1024x2048 .f32) (h0 : a0.IsWhole)
  (a1 : Memref sig .tc .vmem S1x4x2048x512 .bf16) (h1 : a1.IsWhole) (x0 : Vec Ideal S1024x2048 .f32)
  (x1 : Vec Ideal S1x4x2048x512 .bf16)

/-- The table's rows a grid point multiplies. -/
def tabAt : Vec Ideal S256x2048 .f32 := View.ld x0 (Rect.unit (s := S1024x2048) (k0_off1 i) S256x2048.size (k0_off1_inb i))
/-- A residue's part of the transform's input. -/
def uvAt (k : Fin 4) : Vec Ideal S1x1x2048x512 .bf16 := View.ld x1 (Rect.unit (s := S1x4x2048x512) ![0, k.val, 0, 0] S1x1x2048x512.size
  (by intro a; fin_cases a <;> simp [Shape.size] <;> omega))

theorem staged_eq : kernelRun0_A.sl.HS0_16 (F := Ideal) c i a0 h0 a1 h1 x0 x1 = staged (tabAt i x0) (uvAt x1) := by
  have e0 : a0.view.read (Elt Ideal) (h0.unread x0) = x0 := h0.read_unread x0
  have e1 : a1.view.read (Elt Ideal) (h1.unread x1) = x1 := h1.read_unread x1
  have h : kernelRun0_A.sl.HS0_16 (F := Ideal) c i a0 h0 a1 h1 x0 x1 =
    staged (tabAt i (a0.view.read (Elt Ideal) (h0.unread x0))) (uvAt (a1.view.read (Elt Ideal) (h1.unread x1))) := rfl
  rw [h, e0, e1]

theorem uvAt_apply (k : Fin 4) (q : Fin 2048) (e : Fin 512) : uvAt x1 k (ix4 0 0 q e) = x1 (ix4 0 k q e) := by
  pointwise [uvAt]

/-- A group of lanes, read back. -/
theorem group_apply (L : List (View.Piece (Elt Ideal) S4x1024x128 .f32)) (g : Fin 4)
    (hb : ∀ a, ![g.val, 0, 0] a + S1x1024x128.size a ≤ S4x1024x128.size a) (r : Fin 1024) (l : Fin 128) :
    (View.whole cc0_scratch0).readCov (Val := Elt Ideal) L (Rect.unit (s := S4x1024x128) ![g.val, 0, 0] S1x1024x128.size hb).toLoadRect
      (ix3 0 r l) = View.canon (Val := Elt Ideal) (s := S4x1024x128) (e := .f32) L (ix3 g r l) := by
  rw [View.readCov_eq_canon']
  refine congrArg (View.canon (Val := Elt Ideal) (s := S4x1024x128) (e := .f32) L) (funext fun a => Fin.ext ?_)
  match a with
  | ⟨0, _⟩ => show g.val + 1 * 0 = g.val; omega
  | ⟨1, _⟩ => show 0 + 1 * r.val = r.val; omega
  | ⟨2, _⟩ => show 0 + 1 * l.val = l.val; omega

end

section
variable (m : (ℓ : Loc nD τ sig) → Buf (Elt Ideal) ℓ) (c : Dev nD)

theorem off_val : ∀ t : Fin cfg0.N, k0_off1 (grid0.coords t) = ![(nOf t).val * 256, 0] :=
  (by decide +kernel : ∀ t : Fin grid0.N, _)

theorem tabAt_apply (t : Fin cfg0.N) (x0 : Vec Ideal S1024x2048 .f32) (n : Fin 256) (q : Fin 2048) :
    tabAt (grid0.coords t) x0 (ix2 n q) = x0 (ix2 ⟨(nOf t).val * 256 + n.val, by have := (nOf t).isLt; omega⟩ q) := by
  refine congrArg x0 (funext fun a => Fin.ext ?_)
  have h := off_val t
  match a with
  | ⟨0, _⟩ => show k0_off1 (grid0.coords t) 0 + 1 * n.val = _; rw [h]; simp
  | ⟨1, _⟩ => show k0_off1 (grid0.coords t) 1 + 1 * q.val = _; rw [h]; simp

/-- The transform of the arguments at a position. -/
def fOf (b : Fin 8) (p : Fin 4096) (e : Fin 512) : EReal :=
  freq (fun l => argU m c b ⟨p.val % 4, by omega⟩ l e) (fun l => argV m c b ⟨p.val % 4, by omega⟩ l e) ⟨p.val / 4, by omega⟩

/-- A group of lanes staged at a grid point. -/
def groupAt (t : Fin cfg0.N) (g : Fin 4) : Vec Ideal S1x1024x128 .f32 :=
  (View.whole cc0_scratch0).readCov (Val := Elt Ideal) (staged (tabAt (grid0.coords t) (iblk m c 0 t)) (uvAt (iblk m c 1 t)))
    (Rect.unit (s := S4x1024x128) ![g.val, 0, 0] S1x1024x128.size (by intro a; fin_cases a <;> simp [Shape.size] <;> omega)).toLoadRect

/-- What is staged is the transform. -/
theorem groupAt_apply (t : Fin cfg0.N) (g : Fin 4) (r : Fin 1024) (l : Fin 128) :
    groupAt m c t g (ix3 0 r l) = fOf m c (bOf t) (posOf t r) ⟨g.val * 128 + l.val, by omega⟩ := by
  refine (group_apply _ g _ r l).trans ((staged_apply _ _ g r l).trans ?_)
  unfold meant fOf freq
  have hn := (nOf t).isLt
  have e4 : (⟨(posOf t r).val % 4, by omega⟩ : Fin 4) = ⟨r.val % 4, by omega⟩ := Fin.ext (by simp only [posOf]; omega)
  have e1 : (⟨(posOf t r).val / 4, by unfold posOf; dsimp only; omega⟩ : Fin 1024) = ⟨(nOf t).val * 256 + r.val / 4, by omega⟩ :=
    Fin.ext (by simp only [posOf]; omega)
  rw [e4, e1]
  refine (sum_halves (n := 1024) _).trans (congrArg₂ (· + ·) (Finset.sum_congr rfl fun q _ => ?_) (Finset.sum_congr rfl fun q _ => ?_))
  · rw [tabAt_apply, uvAt_apply, blk0, blk1, dif_pos q.isLt, dif_pos q.isLt]
  · rw [tabAt_apply, uvAt_apply, blk0, blk1, dif_neg (by dsimp only; omega), dif_neg (by dsimp only; omega)]
    have e : (⟨1024 + q.val - 1024, by omega⟩ : Fin 1024) = q := Fin.ext (by dsimp only; omega)
    dsimp only
    rw [e]

/-- A block stored whole. -/
theorem tile (a : FVec Ideal S1x1024x1024 .f32) (y : S1x1024x1024.Idx) :
    View.canon (Val := Elt Ideal) (s := S1x1024x1024) (e := .f32)
      [⟨Rect.unit ![0, 0, 0] S1x1024x1024.size inb_S1x1024x1024_S1x1024x1024_0_0_0, a⟩] y = a y := by
  canon_tiles x hx
  exact congrArg a (by ext b; fin_cases b <;> simp <;> omega)

/-- Equal rows and columns give equal outputs. -/
theorem out_congr {f f' : Fin 512 → EReal} {ya ya' sg sg' : Fin 512 → EReal} {x x' g g' : Fin 1024 → EReal}
    (w : Fin 1024 → Fin 1024 → EReal) (n : Fin 1024) (h0 : ∀ j, f j = f' j) (h1 : ∀ j, ya j = ya' j) (h2 : ∀ j, sg j = sg' j)
    (h3 : ∀ l, x l = x' l) (h4 : ∀ l, g l = g' l) : out f ya sg x g w n = out f' ya' sg' x' g' w n := by
  rw [funext h0, funext h1, funext h2, funext h3, funext h4]

/-- The output at a position, of the arguments. -/
def outAt (b : Fin 8) (p : Fin 4096) (n : Fin 1024) : EReal :=
  out (fOf m c b p) (argYa m c b p) (argSg m c b p) (argX m c b p) (fun l => argMod m c ⟨b.val, by omega⟩ ⟨2048 + l.val, by omega⟩)
    (argW m c) n

/-- What a grid point stores, of its blocks. -/
def stored (t : Fin cfg0.N) : FVec Ideal S1x1024x1024 .f32 :=
  k0_pay26 (F := Ideal) (k0_pay24 (groupAt m c t 0)) (k0_pay25 (groupAt m c t 1)) (groupAt m c t 2) (groupAt m c t 3)
    (View.ld (iblk m c 3 t) (Rect.unit (s := S1x1024x512) ![0, 0, 0] S1x1024x512.size inb_S1x1024x512_S1x1024x512_0_0_0))
    (View.ld (iblk m c 2 t) (Rect.unit (s := S1x1024x512) ![0, 0, 0] S1x1024x512.size inb_S1x1024x512_S1x1024x512_0_0_0))
    (View.ld (iblk m c 6 t) (Rect.unit (s := S1024x1024) ![0, 0] S512x1024.size inb_S1024x1024_S512x1024_0_0))
    (View.ld (iblk m c 6 t) (Rect.unit (s := S1024x1024) ![512, 0] S512x1024.size inb_S1024x1024_S512x1024_512_0))
    (View.ld (iblk m c 5 t) (Rect.unit (s := S1x1x3072) ![0, 0, 0] S1x1x3072.size inb_S1x1x3072_S1x1x3072_0_0_0))
    (View.ld (iblk m c 4 t) (Rect.unit (s := S1x1024x1024) ![0, 0, 0] S1x1024x1024.size inb_S1x1024x1024_S1x1024x1024_0_0_0))

theorem outs_eq (t : Fin cfg0.N) : outsAt0 (F := Ideal) m c t = stored m c t := by
  unfold outsAt0 out0_A_7 kernelRun0_A
  dsimp only
  rw [View.read_writes_junk_eq_canon]
  refine (funext fun y => tile _ y).trans ?_
  unfold kernelRun0_A.sl.r_7 kernelRun0_A.sl.r_5 kernelRun0_A.sl.r_6 kernelRun0_A.sl.v82 kernelRun0_A.sl.v84 kernelRun0_A.sl.v86
    kernelRun0_A.sl.v88
  simp only [staged_eq, View.readAt_eq_ld, Memref.IsWhole.read_unread]
  rfl

theorem stored_apply (t : Fin cfg0.N) (r n : Fin 1024) : stored m c t (ix3 0 r n) = outAt m c (bOf t) (posOf t r) n := by
  unfold stored
  refine (end_apply (groupAt m c t) _ _ _ _ _ _ (argW m c) (fun j n => ?_) (fun j n => ?_) r n).trans ?_
  · refine Eq.trans ?_ (blk6 m c t ⟨j.val, by omega⟩ n)
    pointwise []
  · refine Eq.trans ?_ (blk6 m c t ⟨512 + j.val, by omega⟩ n)
    pointwise []
  · refine out_congr (argW m c) n (fun j => ?_) (fun j => ?_) (fun j => ?_) (fun l => ?_) (fun l => ?_)
    · exact (groupAt_apply m c t _ r _).trans (congrArg _ (Fin.ext (by dsimp only; omega)))
    · refine Eq.trans ?_ (blk2 m c t r j)
      pointwise []
    · refine Eq.trans ?_ (blk3 m c t r j)
      pointwise []
    · refine Eq.trans ?_ (blk4 m c t r l)
      pointwise []
    · refine Eq.trans ?_ (blk5 m c t ⟨2048 + l.val, by omega⟩)
      pointwise []

/-- The result's array. -/
theorem out_array : (dats m 0 c).arrAt 7 cfg0.N = fun i : S8x4096x1024.Idx => outAt m c (i 0) (i 1) (i 2) := by
  refine (dats m 0 c).arrAt_eq_of_covers 7 _ (by decide +kernel) fun t ht y => ?_
  blk_simp
  rw [after0_7, outs_eq]
  have h := (index_facts t).2.2.2.2.2.2.2
  have hy : ∀ y : S1x1024x1024.Idx, y = ix3 (0 : Fin 1) (y 1) (y 2) := fun y => by ext b; fin_cases b <;> simp <;> omega
  rw [hy y]
  refine (stored_apply m c t (y 1) (y 2)).trans ?_
  have e0 : (win0_7.blk t).view.emb (ix3 (0 : Fin 1) (y 1) (y 2)) 0 = bOf t := Fin.ext (by blk_simp [h]; simp)
  have e1 : (win0_7.blk t).view.emb (ix3 (0 : Fin 1) (y 1) (y 2)) 1 = posOf t (y 1) := Fin.ext (by blk_simp [h]; simp [posOf])
  have e2 : (win0_7.blk t).view.emb (ix3 (0 : Fin 1) (y 1) (y 2)) 2 = y 2 := Fin.ext (by blk_simp [h])
  exact (congr (congr (congrArg (outAt m c) e0) e1) e2).symm

end

end Cert.Dft

end
-- ==== Proof.DftRef.lean ====
/- The reference of the call that ends the Fourier branch, index by index. -/
module

public import proofs.«01_k».proof.Proof.DftSpec
public import proofs.«01_k».proof.Proof.Gen.Reference4Ideal.Read
public import Idealize.ShloMosaic.Lib.Pointwise

@[expose] public section

set_option maxRecDepth 16384

noncomputable section

namespace Cert.Dft.Ref

open Idealize.ShloMosaic Idealize.ShloMosaic.TcCoe Idealize.SL.Sem Cert.Reference4Ideal Cert.Reference4Ideal.Gen
open Cert.Reference4Ideal.Read

variable (u v : FVec Ideal S8x4x1024x512 .f32) (ya sg : FVec Ideal S8x4096x512 .f32) (x : FVec Ideal S8x4096x1024 .f32)
  (mod : FVec Ideal S16x1x3072 .f32) (w : FVec Ideal S1024x1024 .f32)

theorem ang_apply (k l : Fin 1024) : val_main_v12 (F := Ideal) (ix2 k l) = ang k l := by
  pointwise [val_main_v12, val_main_v11, val_main_v10, val_main_v9, val_main_v8, val_main_v7, val_main_v6, val_main_v5,
    val_main_v4, val_main_v3, val_main_v2, val_main_v1, val_main_v0, val_main_cst, val_main_cst_0]
  rfl

theorem re_apply (k l : Fin 1024) : val_main_v15 (F := Ideal) (ix2 k l) = wRe k l := by
  pointwise [val_main_v15, val_main_v14, val_main_v13, val_main_cst_1, ang_apply]
  rfl

theorem im_apply (k l : Fin 1024) : val_main_v19 (F := Ideal) (ix2 k l) = wIm k l := by
  pointwise [val_main_v19, val_main_v18, val_main_v17, val_main_v16, val_main_cst_2, ang_apply]
  rfl

theorem freq_apply (b : Fin 8) (k : Fin 1024) (j : Fin 4) (c : Fin 512) : val_main_v24 (F := Ideal) u v (ix4 b k j c) =
    freq (fun l => u (ix4 b j l c)) (fun l => v (ix4 b j l c)) k := by
  pointwise [val_main_v24, val_main_v23, val_main_v22, val_main_v21, val_main_v20, re_apply, im_apply]
  unfold freq
  simp only [mul_comm (wRe _ _), mul_comm (wIm _ _)]

/-- The transform of the arguments' arrays at a position. -/
def fOf (b : Fin 8) (p : Fin 4096) (c : Fin 512) : EReal :=
  freq (fun l => u (ix4 b ⟨p.val % 4, by omega⟩ l c)) (fun l => v (ix4 b ⟨p.val % 4, by omega⟩ l c)) ⟨p.val / 4, by omega⟩

theorem flat_apply (b : Fin 8) (p : Fin 4096) (c : Fin 512) : val_main_v25 (F := Ideal) u v (ix3 b p c) = fOf u v b p c := by
  have h : ∀ Z : FVec Ideal S8x1024x4x512 .f32, shapeCast S8x4096x512 Z shapeCasts_S8x1024x4x512_S8x4096x512 (ix3 b p c) =
      Z (ix4 b ⟨p.val / 4, by omega⟩ ⟨p.val % 4, by omega⟩ c) := fun Z => by
    pointwise []
    try (refine congrArg Z ?_; ext a; fin_cases a <;> simp <;> omega)
  exact (h _).trans (freq_apply u v b _ _ c)

theorem proj_apply (b : Fin 8) (p : Fin 4096) (n : Fin 1024) : val_main_v28 (F := Ideal) u v ya sg w (ix3 b p n) =
    (∑ j : Fin 512, ya (ix3 b p j) * w (ix2 ⟨j.val, by omega⟩ n)) +
      ∑ j : Fin 512, fOf u v b p j * sg (ix3 b p j) * w (ix2 ⟨512 + j.val, by omega⟩ n) := by
  pointwise [val_main_v28, val_main_v27, val_main_v26, flat_apply]

theorem out_apply (b : Fin 8) (p : Fin 4096) (n : Fin 1024) : val_main_v35 (F := Ideal) u v ya sg x mod w (ix3 b p n) =
    out (fOf u v b p) (fun j => ya (ix3 b p j)) (fun j => sg (ix3 b p j)) (fun l => x (ix3 b p l))
      (fun l => mod (ix3 ⟨b.val, by omega⟩ 0 ⟨2048 + l.val, by omega⟩)) (fun k n => w (ix2 k n)) n := by
  pointwise [val_main_v35, val_main_v34, val_main_v33, val_main_v32, val_main_v29, proj_apply, out]

end Cert.Dft.Ref

end
-- ==== Proof.DftFinal.lean ====
/- The value claim of the call that ends the Fourier branch. -/
module

public import proofs.«01_k».proof.Defs
public import proofs.«01_k».proof.Proof.DftWhole
public import proofs.«01_k».proof.Proof.DftRef
public import proofs.«01_k».proof.Proof.Gen.Kernel4Ideal.Value

@[expose] public section

set_option maxRecDepth 16384

noncomputable section

namespace Cert.Dft

open Idealize.ShloMosaic Idealize.ShloMosaic.TcCoe Idealize.SL.Sem

/-- Both idealized programs leave the same output from the same arguments. -/
theorem values_agree : Cert.algebraic_Kernel4Ideal_Reference4Ideal (hKernel4Ideal := Cert.Kernel4Ideal.Gen.facts)
    (hReference4Ideal := Cert.Reference4Ideal.Gen.facts) := by
  intro m g m' g' _ hagree
  refine ⟨fun c => fun i : Cert.Kernel4Ideal.S8x4096x1024.Idx => outAt m c (i 0) (i 1) (i 2), ?_, ?_⟩
  · refine (θ_run Cert.Kernel4Ideal.defs _ _).mono (fun r h c => ?_) (Cert.Kernel4Ideal.Value.run_blocks (F := Ideal) m g)
    exact ⟨(h c).1.trans (out_array m c), (h c).2⟩
  · refine (θ_run Cert.Reference4Ideal.defs _ _).mono (fun r h c => ?_) (Cert.Reference4Ideal.Value.run (F := Ideal) m' g')
    obtain ⟨a0, a1, a2, a3, a4, a5, a6⟩ := hagree c
    refine ⟨(h c).1.trans ?_, (h c).2⟩
    refine (Cert.Reference4Ideal.Read.val_main_v35_eq (F := Ideal) _ _ _ _ _ _ _).trans
      ((congr (congr (congr (congr (congr (congr (congrArg (Cert.Reference4Ideal.Read.val_main_v35 (F := Ideal)) a0) a1) a2) a3) a4) a5) a6).trans
        (funext fun i => ?_))
    exact (congrArg _ (eq_ix3 i)).trans (Ref.out_apply _ _ _ _ _ _ _ (i 0) (i 1) (i 2))

end Cert.Dft

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Final
public import proofs.«01_k».proof.Proof.InCFinal
public import proofs.«01_k».proof.Proof.AbFinal
public import proofs.«01_k».proof.Proof.DftFinal

@[expose] public section

noncomputable section

namespace Cert.Proof

open Idealize.ShloMosaic Idealize.SL.Sem

/-- The reference, idealized, ends with its arguments unchanged and no semaphore raised. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The projection call's reference, idealized, ends with its arguments unchanged and no semaphore raised. -/
theorem frame_reference2 : Cert.quiescent_Reference2Ideal (hReference2Ideal := Cert.Reference2Ideal.Gen.facts) := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)

/-- The gMLP call's reference, idealized, ends with its arguments unchanged and no semaphore raised. -/
theorem frame_reference3 : Cert.quiescent_Reference3Ideal (hReference3Ideal := Cert.Reference3Ideal.Gen.facts) := fun m ρ _ =>
  (θ_run Cert.Reference3Ideal.defs _ _).mono
    (fun r h => ⟨fun c => (h c).2.2, sem_eq_zero_of_no_sems (by decide) r.2⟩)
    (Cert.Reference3Ideal.Value.run (F := Ideal) m ρ)

/-- The reference of the call that ends the Fourier branch, idealized, ends with its arguments unchanged and no semaphore raised. -/
theorem frame_reference4 : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The claims of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Attn.pre_facts,
    fun m ρ _ => Cert.Kernel.Gen.frame m ρ, fun m ρ _ => Cert.KernelIdeal.Gen.frame m ρ,
    fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    ⟨IdealRules.named_const.statement Cert.KernelIdeal.κ "mask" .f32 0xF149F2CA#32 _ rfl,
      IdealRules.named_const.statement Cert.KernelIdeal.κ "log2e" .f32 0x3FB8AA3B#32 _ rfl⟩,
    Cert.Attn.values_agree,
    IdealRules.named_const.statement Cert.Kernel2Ideal.κ "qscale" .f32 0x3E38AA3B#32 _ rfl,
    Cert.InC.values_agree,
    trivial,
    Cert.Ab.values_agree,
    trivial,
    Cert.Dft.values_agree⟩

end Cert.Proof

end
